-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_layers_finite [hPre_layers_finite : Cert.Pre_layers_finite.Facts] (m : (ℓ : Loc Cert.KernelIdeal.nD Cert.KernelIdeal.τ Cert.KernelIdeal.sig) → Buf (Elt Ideal) ℓ) : Prop :=
  ∀ c : Dev Cert.KernelIdeal.nD,
    (Cert.Pre_layers_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_layers_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_layers_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_layers_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_layers_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_layers_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layers_finite [hPre_layers_finite : Cert.Pre_layers_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layers_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_layers_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_layers_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_layers_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_layers_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_layers_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_layers_finite [hKernelIdeal : Cert.KernelIdeal.Facts] [hPre_layers_finite : Cert.Pre_layers_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layers_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_layers_finite [hReferenceIdeal : Cert.ReferenceIdeal.Facts] [hPre_layers_finite : Cert.Pre_layers_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layers_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_layers_finite [hKernelIdeal : Cert.KernelIdeal.Facts] [hReferenceIdeal : Cert.ReferenceIdeal.Facts] [hPre_layers_finite : Cert.Pre_layers_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layers_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_layers_finite : Cert.Pre_layers_finite.Facts),
    quiescent_Kernel (hKernel := hKernel)
    ∧ quiescent_KernelIdeal (hKernelIdeal := hKernelIdeal)
    ∧ quiescent_KernelIdeal_pre_layers_finite (hKernelIdeal := hKernelIdeal) (hPre_layers_finite := hPre_layers_finite)
    ∧ quiescent_ReferenceIdeal (hReferenceIdeal := hReferenceIdeal)
    ∧ quiescent_ReferenceIdeal_pre_layers_finite (hReferenceIdeal := hReferenceIdeal) (hPre_layers_finite := hPre_layers_finite)
    ∧ preserves_Kernel_KernelIdeal
    ∧ algebraic_KernelIdeal_ReferenceIdeal_pre_layers_finite (hKernelIdeal := hKernelIdeal) (hReferenceIdeal := hReferenceIdeal) (hPre_layers_finite := hPre_layers_finite)
-- ==== Pre_layers_finite.lean ====
abbrev S8x6x3 : Shape := ⟨3, ![8, 6, 3]⟩
abbrev S8x6x512x20x3 : Shape := ⟨5, ![8, 6, 512, 20, 3]⟩
abbrev S3x128 : Shape := ⟨2, ![3, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x256 : Shape := ⟨2, ![256, 256]⟩
abbrev S3x256 : Shape := ⟨2, ![3, 256]⟩
abbrev S_ : Shape := ⟨0, ![]⟩

class Facts : Prop where
  slices_S512x256_S256x256_0_0 : S512x256.Slices ![0, 0] S256x256
  bcast_S_S8x6x3 : S_.BroadcastsInDim S8x6x3 (![] : Fin 0 → Fin S8x6x3.rank)
  bcast_S_S8x6x512x20x3 : S_.BroadcastsInDim S8x6x512x20x3 (![] : Fin 0 → Fin S8x6x512x20x3.rank)
  bcast_S_S3x128 : S_.BroadcastsInDim S3x128 (![] : Fin 0 → Fin S3x128.rank)
  bcast_S_S128 : S_.BroadcastsInDim S128 (![] : Fin 0 → Fin S128.rank)
  bcast_S_S128x256 : S_.BroadcastsInDim S128x256 (![] : Fin 0 → Fin S128x256.rank)
  bcast_S_S256x256 : S_.BroadcastsInDim S256x256 (![] : Fin 0 → Fin S256x256.rank)

variable [Facts]

def fn_part1 {F : FTy → Type} [FloatOps F] (main_v3 : IVec S8x6x3 1) (main_v6 : IVec S8x6x512x20x3 1) (main_v9 : IVec S3x128 1) (main_v12 : IVec S128 1) (main_v15 : IVec S128x256 1) (main_v16 : FVec F S256x256 .f32) (main_v17 : FVec F S256x256 .f32) : IVec S8x6x3 1 × IVec S8x6x512x20x3 1 × IVec S3x128 1 × IVec S128 1 × IVec S128x256 1 × IVec S256x256 1 :=
  let main_v18 : IVec S256x256 1 := cmpf .olt main_v16 main_v17
  (main_v3, main_v6, main_v9, main_v12, main_v15, main_v18)

def fn {F : FTy → Type} [FloatOps F] (main_arg0 : FVec F S8x6x3 .f32) (main_arg1 : FVec F S8x6x3 .f32) (main_arg2 : FVec F S8x6x512x20x3 .f32) (main_arg3 : FVec F S3x128 .f32) (main_arg4 : FVec F S128 .f32) (main_arg5 : FVec F S128x256 .f32) (main_arg6 : FVec F S256 .f32) (main_arg7 : FVec F S512x256 .f32) (main_arg8 : FVec F S256 .f32) (main_arg9 : FVec F S256x256 .f32) (main_arg10 : FVec F S256 .f32) (main_arg11 : FVec F S3x256 .f32) (main_arg12 : FVec F S256 .f32) : IVec S8x6x3 1 × IVec S8x6x512x20x3 1 × IVec S3x128 1 × IVec S128 1 × IVec S128x256 1 × IVec S256x256 1 :=
  let main_v0 : FVec F S256x256 .f32 := (extractStridedSlice S256x256 ![0, 0] · slices_S512x256_S256x256_0_0) main_arg7
  let main_v1 : FVec F S8x6x3 .f32 := Host.absf main_arg1
  let main_cst : FVec F S_ .f32 := constant S_ .f32 0x7F800000#32
  let main_v2 : FVec F S8x6x3 .f32 := broadcastInDim S8x6x3 ![] bcast_S_S8x6x3 main_cst
  let main_v3 : IVec S8x6x3 1 := cmpf .olt main_v1 main_v2
  let main_v4 : FVec F S8x6x512x20x3 .f32 := Host.absf main_arg2
  let main_cst_0 : FVec F S_ .f32 := constant S_ .f32 0x7F800000#32
  let main_v5 : FVec F S8x6x512x20x3 .f32 := broadcastInDim S8x6x512x20x3 ![] bcast_S_S8x6x512x20x3 main_cst_0
  let main_v6 : IVec S8x6x512x20x3 1 := cmpf .olt main_v4 main_v5
  let main_v7 : FVec F S3x128 .f32 := Host.absf main_arg3
  let main_cst_1 : FVec F S_ .f32 := constant S_ .f32 0x7F800000#32
  let main_v8 : FVec F S3x128 .f32 := broadcastInDim S3x128 ![] bcast_S_S3x128 main_cst_1
  let main_v9 : IVec S3x128 1 := cmpf .olt main_v7 main_v8
  let main_v10 : FVec F S128 .f32 := Host.absf main_arg4
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_v13 : FVec F S128x256 .f32 := Host.absf main_arg5
  let main_cst_3 : FVec F S_ .f32 := constant S_ .f32 0x7F800000#32
  let main_v14 : FVec F S128x256 .f32 := broadcastInDim S128x256 ![] bcast_S_S128x256 main_cst_3
  let main_v15 : IVec S128x256 1 := cmpf .olt main_v13 main_v14
  let main_v16 : FVec F S256x256 .f32 := Host.absf main_v0
  let main_cst_4 : FVec F S_ .f32 := constant S_ .f32 0x7F800000#32
  let main_v17 : FVec F S256x256 .f32 := broadcastInDim S256x256 ![] bcast_S_S256x256 main_cst_4
  fn_part1 (F := F) main_v3 main_v6 main_v9 main_v12 main_v15 main_v16 main_v17
-- ==== Kernel.lean ====
abbrev S8x6x3 : Shape := ⟨3, ![8, 6, 3]⟩
abbrev S8x6x512x20x3 : Shape := ⟨5, ![8, 6, 512, 20, 3]⟩
abbrev S3x128 : Shape := ⟨2, ![3, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x256 : Shape := ⟨2, ![256, 256]⟩
abbrev S3x256 : Shape := ⟨2, ![3, 256]⟩
abbrev S60x2560 : Shape := ⟨2, ![60, 2560]⟩
abbrev S48x512x60 : Shape := ⟨3, ![48, 512, 60]⟩
abbrev S48x1x3 : Shape := ⟨3, ![48, 1, 3]⟩
abbrev S1x128 : Shape := ⟨2, ![1, 128]⟩
abbrev S1x256 : Shape := ⟨2, ![1, 256]⟩
abbrev S48x1x256 : Shape := ⟨3, ![48, 1, 256]⟩
abbrev S4x512x60 : Shape := ⟨3, ![4, 512, 60]⟩
abbrev S4x1x3 : Shape := ⟨3, ![4, 1, 3]⟩
abbrev S4x1x256 : Shape := ⟨3, ![4, 1, 256]⟩
abbrev S1x1x1 : Shape := ⟨3, ![1, 1, 1]⟩
abbrev S1x1 : Shape := ⟨2, ![1, 1]⟩
abbrev S1x2560 : Shape := ⟨2, ![1, 2560]⟩
abbrev S60x128 : Shape := ⟨2, ![60, 128]⟩
abbrev S1x512x60 : Shape := ⟨3, ![1, 512, 60]⟩
abbrev S512x60 : Shape := ⟨2, ![512, 60]⟩
abbrev S512x2560 : Shape := ⟨2, ![512, 2560]⟩
abbrev S512x128 : Shape := ⟨2, ![512, 128]⟩
abbrev S10240x128 : Shape := ⟨2, ![10240, 128]⟩
abbrev S10240x256 : Shape := ⟨2, ![10240, 256]⟩
abbrev S20x512x256 : Shape := ⟨3, ![20, 512, 256]⟩
abbrev S1x512x256 : Shape := ⟨3, ![1, 512, 256]⟩
abbrev S1x1x256 : Shape := ⟨3, ![1, 1, 256]⟩
abbrev S8x6x256 : Shape := ⟨3, ![8, 6, 256]⟩

abbrev nBuf : Space → Nat
  | .hbm => 30
  | .vmem => 20
  | .smem => 0
  | _ => 0

abbrev bufTy : (tb : Table) → Fin (tcTables nBuf tb) → BufTy
  | .hbm, ⟨0, _⟩ => ⟨S8x6x3, .f32⟩
  | .hbm, ⟨1, _⟩ => ⟨S8x6x3, .f32⟩
  | .hbm, ⟨2, _⟩ => ⟨S8x6x512x20x3, .f32⟩
  | .hbm, ⟨3, _⟩ => ⟨S3x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S3x256, .f32⟩
  | .hbm, ⟨12, _⟩ => ⟨S256, .f32⟩
  | .hbm, ⟨13, _⟩ => ⟨S60x2560, .f32⟩
  | .hbm, ⟨14, _⟩ => ⟨S48x512x60, .f32⟩
  | .hbm, ⟨15, _⟩ => ⟨S48x1x3, .f32⟩
  | .hbm, ⟨16, _⟩ => ⟨S48x1x3, .f32⟩
  | .hbm, ⟨17, _⟩ => ⟨S128x256, .bf16⟩
  | .hbm, ⟨18, _⟩ => ⟨S256x256, .f32⟩
  | .hbm, ⟨19, _⟩ => ⟨S256x256, .bf16⟩
  | .hbm, ⟨20, _⟩ => ⟨S256x256, .f32⟩
  | .hbm, ⟨21, _⟩ => ⟨S256x256, .bf16⟩
  | .hbm, ⟨22, _⟩ => ⟨S256x256, .bf16⟩
  | .hbm, ⟨23, _⟩ => ⟨S1x128, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S48x1x256, .f32⟩
  | .hbm, ⟨29, _⟩ => ⟨S8x6x256, .f32⟩
  | .local _ .vmem, ⟨0, _⟩ => ⟨S4x512x60, .f32⟩
  | .local _ .vmem, ⟨1, _⟩ => ⟨S4x512x60, .f32⟩
  | .local _ .vmem, ⟨2, _⟩ => ⟨S4x1x3, .f32⟩
  | .local _ .vmem, ⟨3, _⟩ => ⟨S4x1x3, .f32⟩
  | .local _ .vmem, ⟨4, _⟩ => ⟨S4x1x3, .f32⟩
  | .local _ .vmem, ⟨5, _⟩ => ⟨S4x1x3, .f32⟩
  | .local _ .vmem, ⟨6, _⟩ => ⟨S60x2560, .f32⟩
  | .local _ .vmem, ⟨7, _⟩ => ⟨S3x128, .f32⟩
  | .local _ .vmem, ⟨8, _⟩ => ⟨S1x128, .f32⟩
  | .local _ .vmem, ⟨9, _⟩ => ⟨S128x256, .bf16⟩
  | .local _ .vmem, ⟨10, _⟩ => ⟨S1x256, .f32⟩
  | .local _ .vmem, ⟨11, _⟩ => ⟨S256x256, .bf16⟩
  | .local _ .vmem, ⟨12, _⟩ => ⟨S256x256, .bf16⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S3x256, .f32⟩
  | .local _ .vmem, ⟨17, _⟩ => ⟨S1x256, .f32⟩
  | .local _ .vmem, ⟨18, _⟩ => ⟨S4x1x256, .f32⟩
  | .local _ .vmem, ⟨19, _⟩ => ⟨S4x1x256, .f32⟩
  | _, _ => ⟨S8x6x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x60 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S60x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S8x6x3 : Shape := ⟨3, ![8, 6, 3]⟩
abbrev S8x6x512x20x3 : Shape := ⟨5, ![8, 6, 512, 20, 3]⟩
abbrev S3x128 : Shape := ⟨2, ![3, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x256 : Shape := ⟨2, ![256, 256]⟩
abbrev S3x256 : Shape := ⟨2, ![3, 256]⟩
abbrev S8x6x1 : Shape := ⟨3, ![8, 6, 1]⟩
abbrev S8x6 : Shape := ⟨2, ![8, 6]⟩
abbrev S8x6x256 : Shape := ⟨3, ![8, 6, 256]⟩
abbrev S1x1x256 : Shape := ⟨3, ![1, 1, 256]⟩
abbrev S8x6x1x1x3 : Shape := ⟨5, ![8, 6, 1, 1, 3]⟩
abbrev S8x6x512x20x1 : Shape := ⟨5, ![8, 6, 512, 20, 1]⟩
abbrev S8x6x512x20 : Shape := ⟨4, ![8, 6, 512, 20]⟩
abbrev S8x6x1x1x1 : Shape := ⟨5, ![8, 6, 1, 1, 1]⟩
abbrev S8x6x1x1 : Shape := ⟨4, ![8, 6, 1, 1]⟩
abbrev S48x512x20x3 : Shape := ⟨4, ![48, 512, 20, 3]⟩
abbrev S_ : Shape := ⟨0, ![]⟩
abbrev S48x512x20 : Shape := ⟨3, ![48, 512, 20]⟩
abbrev S48x512x20x128 : Shape := ⟨4, ![48, 512, 20, 128]⟩
abbrev S1x1x1x128 : Shape := ⟨4, ![1, 1, 1, 128]⟩
abbrev S48x512x20x256 : Shape := ⟨4, ![48, 512, 20, 256]⟩
abbrev S1x1x1x256 : Shape := ⟨4, ![1, 1, 1, 256]⟩
abbrev S48x512x20x1 : Shape := ⟨4, ![48, 512, 20, 1]⟩
abbrev S48x512x256 : Shape := ⟨3, ![48, 512, 256]⟩
abbrev S48x512x1x256 : Shape := ⟨4, ![48, 512, 1, 256]⟩
abbrev S48x512x20x512 : Shape := ⟨4, ![48, 512, 20, 512]⟩
abbrev S8x6x512x256 : Shape := ⟨4, ![8, 6, 512, 256]⟩

abbrev nBuf : Space → Nat
  | .hbm => 133
  | .vmem => 0
  | .smem => 0
  | _ => 0

abbrev hbmTy0_0 (i : Nat) : BufTy := match i % 128 with
  | 0 => ⟨S8x6x3, .f32⟩
  | 1 => ⟨S8x6x3, .f32⟩
  | 2 => ⟨S8x6x512x20x3, .f32⟩
  | 3 => ⟨S3x128, .f32⟩
  | 4 => ⟨S128, .f32⟩
  | 5 => ⟨S128x256, .f32⟩
  | 6 => ⟨S256, .f32⟩
  | 7 => ⟨S512x256, .f32⟩
  | 8 => ⟨S256, .f32⟩
  | 9 => ⟨S256x256, .f32⟩
  | 10 => ⟨S256, .f32⟩
  | 11 => ⟨S3x256, .f32⟩
  | 12 => ⟨S256, .f32⟩
  | 13 => ⟨S8x6x1, .f32⟩
  | 14 => ⟨S8x6, .f32⟩
  | 15 => ⟨S8x6x1, .f32⟩
  | 16 => ⟨S8x6, .f32⟩
  | 17 => ⟨S8x6, .f32⟩
  | 18 => ⟨S8x6x1, .f32⟩
  | 19 => ⟨S8x6, .f32⟩
  | 20 => ⟨S8x6x1, .f32⟩
  | 21 => ⟨S8x6, .f32⟩
  | 22 => ⟨S8x6, .f32⟩
  | 23 => ⟨S8x6x1, .f32⟩
  | 24 => ⟨S8x6, .f32⟩
  | 25 => ⟨S8x6, .f32⟩
  | 26 => ⟨S8x6, .f32⟩
  | 27 => ⟨S8x6, .f32⟩
  | 28 => ⟨S8x6, .f32⟩
  | 29 => ⟨S8x6, .f32⟩
  | 30 => ⟨S8x6, .f32⟩
  | 31 => ⟨S8x6, .f32⟩
  | 32 => ⟨S8x6, .f32⟩
  | 33 => ⟨S8x6, .f32⟩
  | 34 => ⟨S8x6x1, .f32⟩
  | 35 => ⟨S8x6, .f32⟩
  | 36 => ⟨S8x6x1, .f32⟩
  | 37 => ⟨S8x6, .f32⟩
  | 38 => ⟨S8x6, .f32⟩
  | 39 => ⟨S8x6x1, .f32⟩
  | 40 => ⟨S8x6x1, .f32⟩
  | 41 => ⟨S8x6x1, .f32⟩
  | 42 => ⟨S8x6x3, .f32⟩
  | 43 => ⟨S8x6x256, .f32⟩
  | 44 => ⟨S1x1x256, .f32⟩
  | 45 => ⟨S8x6x256, .f32⟩
  | 46 => ⟨S8x6x256, .f32⟩
  | 47 => ⟨S8x6x1x1x3, .f32⟩
  | 48 => ⟨S8x6x512x20x1, .f32⟩
  | 49 => ⟨S8x6x512x20, .f32⟩
  | 50 => ⟨S8x6x1x1x1, .f32⟩
  | 51 => ⟨S8x6x1x1, .f32⟩
  | 52 => ⟨S8x6x512x20, .f32⟩
  | 53 => ⟨S8x6x512x20, .f32⟩
  | 54 => ⟨S8x6x512x20x1, .f32⟩
  | 55 => ⟨S8x6x512x20, .f32⟩
  | 56 => ⟨S8x6x1x1x1, .f32⟩
  | 57 => ⟨S8x6x1x1, .f32⟩
  | 58 => ⟨S8x6x512x20, .f32⟩
  | 59 => ⟨S8x6x512x20, .f32⟩
  | 60 => ⟨S8x6x1x1x1, .f32⟩
  | 61 => ⟨S8x6x1x1, .f32⟩
  | 62 => ⟨S8x6x1x1, .f32⟩
  | 63 => ⟨S8x6x1x1, .f32⟩
  | 64 => ⟨S8x6x512x20, .f32⟩
  | 65 => ⟨S8x6x512x20, .f32⟩
  | 66 => ⟨S8x6x512x20, .f32⟩
  | 67 => ⟨S8x6x512x20, .f32⟩
  | 68 => ⟨S8x6x512x20, .f32⟩
  | 69 => ⟨S8x6x512x20, .f32⟩
  | 70 => ⟨S8x6x512x20, .f32⟩
  | 71 => ⟨S8x6x512x20, .f32⟩
  | 72 => ⟨S8x6x512x20, .f32⟩
  | 73 => ⟨S8x6x512x20, .f32⟩
  | 74 => ⟨S8x6x512x20, .f32⟩
  | 75 => ⟨S8x6x512x20x1, .f32⟩
  | 76 => ⟨S8x6x512x20, .f32⟩
  | 77 => ⟨S8x6x1x1x1, .f32⟩
  | 78 => ⟨S8x6x1x1, .f32⟩
  | 79 => ⟨S8x6x512x20, .f32⟩
  | 80 => ⟨S8x6x512x20, .f32⟩
  | 81 => ⟨S8x6x512x20x1, .f32⟩
  | 82 => ⟨S8x6x512x20x1, .f32⟩
  | 83 => ⟨S8x6x512x20x1, .f32⟩
  | 84 => ⟨S8x6x512x20x3, .f32⟩
  | 85 => ⟨S48x512x20x3, .f32⟩
  | 86 => ⟨S_, .i1⟩
  | 87 => ⟨S48x512x20, .i1⟩
  | 88 => ⟨S48x512x20x128, .f32⟩
  | 89 => ⟨S1x1x1x128, .f32⟩
  | 90 => ⟨S48x512x20x128, .f32⟩
  | 91 => ⟨S48x512x20x128, .f32⟩
  | 92 => ⟨S_, .f32⟩
  | 93 => ⟨S48x512x20x128, .f32⟩
  | 94 => ⟨S48x512x20x128, .f32⟩
  | 95 => ⟨S48x512x20x256, .f32⟩
  | 96 => ⟨S1x1x1x256, .f32⟩
  | 97 => ⟨S48x512x20x256, .f32⟩
  | 98 => ⟨S48x512x20x256, .f32⟩
  | 99 => ⟨S48x512x20x1, .i1⟩
  | 100 => ⟨S_, .f32⟩
  | 101 => ⟨S_, .f32⟩
  | 102 => ⟨S48x512x20x256, .i1⟩
  | 103 => ⟨S48x512x20x256, .f32⟩
  | 104 => ⟨S48x512x20x256, .f32⟩
  | 105 => ⟨S_, .f32⟩
  | 106 => ⟨S48x512x256, .f32⟩
  | 107 => ⟨S48x512x1x256, .f32⟩
  | 108 => ⟨S48x512x20x256, .f32⟩
  | 109 => ⟨S48x512x20x512, .f32⟩
  | 110 => ⟨S48x512x20x256, .f32⟩
  | 111 => ⟨S1x1x1x256, .f32⟩
  | 112 => ⟨S48x512x20x256, .f32⟩
  | 113 => ⟨S48x512x20x256, .f32⟩
  | 114 => ⟨S_, .f32⟩
  | 115 => ⟨S48x512x20x256, .f32⟩
  | 116 => ⟨S48x512x20x256, .f32⟩
  | 117 => ⟨S48x512x20x256, .f32⟩
  | 118 => ⟨S1x1x1x256, .f32⟩
  | 119 => ⟨S48x512x20x256, .f32⟩
  | 120 => ⟨S48x512x20x256, .f32⟩
  | 121 => ⟨S48x512x20x1, .i1⟩
  | 122 => ⟨S_, .f32⟩
  | 123 => ⟨S_, .f32⟩
  | 124 => ⟨S48x512x20x256, .i1⟩
  | 125 => ⟨S48x512x20x256, .f32⟩
  | 126 => ⟨S48x512x20x256, .f32⟩
  | 127 => ⟨S_, .f32⟩
  | _ => ⟨S8x6x3, .f32⟩

abbrev hbmTy0_1 (i : Nat) : BufTy := match i % 128 with
  | 0 => ⟨S48x512x256, .f32⟩
  | 1 => ⟨S8x6x512x256, .f32⟩
  | 2 => ⟨S_, .f32⟩
  | 3 => ⟨S8x6x256, .f32⟩
  | 4 => ⟨S8x6x256, .f32⟩
  | _ => ⟨S8x6x3, .f32⟩

abbrev hbmTy (i : Nat) : BufTy := match i / 128 with
  | 0 => hbmTy0_0 i
  | 1 => hbmTy0_1 i
  | _ => ⟨S8x6x3, .f32⟩

abbrev bufTy : (tb : Table) → Fin (tcTables nBuf tb) → BufTy
  | .hbm, ⟨i, _⟩ => hbmTy i
  | _, _ => ⟨S8x6x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_c : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_0 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_v85 : Ref sig .tc := ⟨.hbm, 104, rfl⟩
abbrev main_cst_1 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_2 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_3 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v101 : Ref sig .tc := ⟨.hbm, 126, rfl⟩
abbrev main_cst_4 : Ref sig .tc := ⟨.hbm, 127, rfl⟩
abbrev main_v102 : Ref sig .tc := ⟨.hbm, 128, rfl⟩
abbrev main_v103 : Ref sig .tc := ⟨.hbm, 129, rfl⟩
abbrev main_cst_5 : Ref sig .tc := ⟨.hbm, 130, rfl⟩
abbrev main_v104 : Ref sig .tc := ⟨.hbm, 131, rfl⟩
abbrev main_v105 : Ref sig .tc := ⟨.hbm, 132, rfl⟩

abbrev nD : Nat := 1
abbrev τ : Topo := Topo.v7x

variable {F : FTy → Type} [FloatOps F]
-- ==== Proof.Block.lean ====
module

public import proofs.«01_k».proof.Proof.Gen.KernelIdeal.Frame

@[expose] public section

set_option maxRecDepth 16384

noncomputable section

namespace Cert.Encoder

open Idealize.ShloMosaic Idealize.ShloMosaic.TcCoe Idealize.SL.Sem
open Cert.KernelIdeal Cert.KernelIdeal.Gen

variable {F : FTy → Type} [FloatOps F]

/-- The hidden layer of one batch-and-mode: 512 polylines by 20 points of 128 hidden values each, from the pose, the
    first layer's rows and bias, the block mask, and the polylines. -/
def hid (px py th : Vec F S1x1x1 .f32) (w0 w1 w2 b1 : Vec F S1x128 .f32) (mask : Vec F S60x2560 .f32)
    (pts : Vec F S1x512x60 .f32) : FVec F S512x2560 .bf16 :=
  k0_pay11 (k0_pay7 px py th w0 w1 w2 b1) (k0_pay8 th w0 w1 w2) mask pts

/-- Everything after the hidden layer, on the map side: the 256 features summed over the polylines. -/
def feat (h : FVec F S512x2560 .bf16) (W2 : Vec F S128x256 .bf16) (b2 : Vec F S1x256 .f32)
    (W3a W3b : Vec F S256x256 .bf16) (b3 : Vec F S1x256 .f32) (W4 : Vec F S256x256 .bf16) : FVec F S256 .f32 :=
  k0_pay30 (k0_pay9 W2 W3a) (k0_pay10 b2 W3a) h
    (extractStridedSlice S512x128 ![0, 0] h slices_S512x2560_o0_0_S512x128)
    (extractStridedSlice S512x128 ![0, 128] h slices_S512x2560_o0_128_S512x128)
    (extractStridedSlice S512x128 ![0, 256] h slices_S512x2560_o0_256_S512x128)
    (extractStridedSlice S512x128 ![0, 384] h slices_S512x2560_o0_384_S512x128)
    (extractStridedSlice S512x128 ![0, 512] h slices_S512x2560_o0_512_S512x128)
    (extractStridedSlice S512x128 ![0, 640] h slices_S512x2560_o0_640_S512x128)
    (extractStridedSlice S512x128 ![0, 768] h slices_S512x2560_o0_768_S512x128)
    (extractStridedSlice S512x128 ![0, 896] h slices_S512x2560_o0_896_S512x128)
    (extractStridedSlice S512x128 ![0, 1024] h slices_S512x2560_o0_1024_S512x128)
    (extractStridedSlice S512x128 ![0, 1152] h slices_S512x2560_o0_1152_S512x128)
    (extractStridedSlice S512x128 ![0, 1280] h slices_S512x2560_o0_1280_S512x128)
    (extractStridedSlice S512x128 ![0, 1408] h slices_S512x2560_o0_1408_S512x128)
    (extractStridedSlice S512x128 ![0, 1536] h slices_S512x2560_o0_1536_S512x128)
    (extractStridedSlice S512x128 ![0, 1664] h slices_S512x2560_o0_1664_S512x128)
    (extractStridedSlice S512x128 ![0, 1792] h slices_S512x2560_o0_1792_S512x128)
    (extractStridedSlice S512x128 ![0, 1920] h slices_S512x2560_o0_1920_S512x128)
    (extractStridedSlice S512x128 ![0, 2048] h slices_S512x2560_o0_2048_S512x128)
    (extractStridedSlice S512x128 ![0, 2176] h slices_S512x2560_o0_2176_S512x128)
    W2 b2 W3b b3 W4

/-- The row of 256 results of one batch-and-mode, from what the body loads for it. -/
def row (pts : Vec F S1x512x60 .f32) (px py th gx gy gt : Vec F S1x1x1 .f32) (mask : Vec F S60x2560 .f32)
    (w0 w1 w2 b1 : Vec F S1x128 .f32) (W2 : Vec F S128x256 .bf16) (b2 : Vec F S1x256 .f32)
    (W3a W3b : Vec F S256x256 .bf16) (b3 : Vec F S1x256 .f32) (W4 : Vec F S256x256 .bf16) (b4 : Vec F S1x256 .f32)
    (g0 g1 g2 bg : Vec F S1x256 .f32) : FVec F S1x1x256 .f32 :=
  k0_pay32 (k0_pay31 (k0_pay2 px) (k0_pay3 py) (k0_pay4 th) (k0_pay5 th) (k0_pay6 th)
    (feat (hid px py th w0 w1 w2 b1 mask pts) W2 b2 W3a W3b b3 W4) b4 gx gy gt g0 g1 g2 bg)

set_option maxHeartbeats 4000000 in
/-- The block the body writes: each of its four rows is `row` of that row's pose, goal and polylines. -/
theorem out_eq (x0 : Vec F S4x512x60 .f32) (x1 : Vec F S4x1x3 .f32) (x2 : Vec F S4x1x3 .f32) (x3 : Vec F S60x2560 .f32)
    (x4 : Vec F S3x128 .f32) (x5 : Vec F S1x128 .f32) (x6 : Vec F S128x256 .bf16) (x7 : Vec F S1x256 .f32)
    (x8 x9 : Vec F S256x256 .bf16) (x10 : Vec F S1x256 .f32) (x11 : Vec F S256x256 .bf16) (x12 : Vec F S1x256 .f32)
    (x13 : Vec F S3x256 .f32) (x14 : Vec F S1x256 .f32) :
    out0_15 x0 x1 x2 x3 x4 x5 x6 x7 x8 x9 x10 x11 x12 x13 x14 = (View.canon [
      ⟨r0_30, row (View.ld x0 r0_29) (View.ld x1 r0_26) (View.ld x1 r0_27) (View.ld x1 r0_28) (View.ld x2 r0_26)
        (View.ld x2 r0_27) (View.ld x2 r0_28) (View.ld x3 r0_7) (View.ld x4 r0_3) (View.ld x4 r0_4) (View.ld x4 r0_5)
        (View.ld x5 r0_6) (View.ld x6 r0_9) (View.ld x7 r0_11) (View.ld x8 r0_10) (View.ld x9 r0_10) (View.ld x10 r0_11)
        (View.ld x11 r0_10) (View.ld x12 r0_11) (View.ld x13 r0_12) (View.ld x13 r0_13) (View.ld x13 r0_14)
        (View.ld x14 r0_11)⟩,
      ⟨r0_25, row (View.ld x0 r0_24) (View.ld x1 r0_21) (View.ld x1 r0_22) (View.ld x1 r0_23) (View.ld x2 r0_21)
        (View.ld x2 r0_22) (View.ld x2 r0_23) (View.ld x3 r0_7) (View.ld x4 r0_3) (View.ld x4 r0_4) (View.ld x4 r0_5)
        (View.ld x5 r0_6) (View.ld x6 r0_9) (View.ld x7 r0_11) (View.ld x8 r0_10) (View.ld x9 r0_10) (View.ld x10 r0_11)
        (View.ld x11 r0_10) (View.ld x12 r0_11) (View.ld x13 r0_12) (View.ld x13 r0_13) (View.ld x13 r0_14)
        (View.ld x14 r0_11)⟩,
      ⟨r0_20, row (View.ld x0 r0_19) (View.ld x1 r0_16) (View.ld x1 r0_17) (View.ld x1 r0_18) (View.ld x2 r0_16)
        (View.ld x2 r0_17) (View.ld x2 r0_18) (View.ld x3 r0_7) (View.ld x4 r0_3) (View.ld x4 r0_4) (View.ld x4 r0_5)
        (View.ld x5 r0_6) (View.ld x6 r0_9) (View.ld x7 r0_11) (View.ld x8 r0_10) (View.ld x9 r0_10) (View.ld x10 r0_11)
        (View.ld x11 r0_10) (View.ld x12 r0_11) (View.ld x13 r0_12) (View.ld x13 r0_13) (View.ld x13 r0_14)
        (View.ld x14 r0_11)⟩,
      ⟨r0_15, row (View.ld x0 r0_8) (View.ld x1 r0_0) (View.ld x1 r0_1) (View.ld x1 r0_2) (View.ld x2 r0_0)
        (View.ld x2 r0_1) (View.ld x2 r0_2) (View.ld x3 r0_7) (View.ld x4 r0_3) (View.ld x4 r0_4) (View.ld x4 r0_5)
        (View.ld x5 r0_6) (View.ld x6 r0_9) (View.ld x7 r0_11) (View.ld x8 r0_10) (View.ld x9 r0_10) (View.ld x10 r0_11)
        (View.ld x11 r0_10) (View.ld x12 r0_11) (View.ld x13 r0_12) (View.ld x13 r0_13) (View.ld x13 r0_14)
        (View.ld x14 r0_11)⟩] : Vec F S4x1x256 .f32) := rfl

end Cert.Encoder

end
-- ==== Proof.Spec.lean ====
module

public import Mathlib.Data.EReal.Operations
public import Mathlib.Data.EReal.Inv
public import Mathlib.Algebra.BigOperators.Fin
public import Mathlib.Tactic.Ring
public import Mathlib.Data.Finset.Fold
public import Mathlib.Tactic.FinCases

@[expose] public section

noncomputable section

namespace Cert.Encoder

open Finset

/-- The extended real of a finite sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real times a sum with a real term distributes, whatever the other term is. -/
theorem add_mul_real (h : ℝ) (b : EReal) (w : ℝ) : ((h : EReal) + b) * w = h * w + b * w := by
  induction b with
  | bot =>
    rcases lt_trichotomy w 0 with hw | hw | hw
    · rw [EReal.add_bot, EReal.bot_mul_coe_of_neg hw, ← EReal.coe_mul, EReal.coe_add_top]
    · subst hw; simp
    · rw [EReal.add_bot, EReal.bot_mul_coe_of_pos hw, EReal.add_bot]
  | coe b => norm_cast; ring
  | top =>
    rcases lt_trichotomy w 0 with hw | hw | hw
    · rw [EReal.coe_add_top, EReal.top_mul_coe_of_neg hw, EReal.add_bot]
    · subst hw; simp
    · rw [EReal.coe_add_top, EReal.top_mul_coe_of_pos hw, ← EReal.coe_mul, EReal.coe_add_top]

/-- Two layers run one after the other equal the layers multiplied together, when the input and both weight
    matrices are real; the first bias may be anything. -/
theorem two_layers {K L : Type} [Fintype K] [Fintype L] (h : K → ℝ) (u : K → L → ℝ) (b : L → EReal) (v : L → ℝ) :
    ∑ l, ((∑ k, (h k : EReal) * (u k l : EReal)) + b l) * (v l : EReal)
      = (∑ k, (h k : EReal) * ∑ l, (u k l : EReal) * (v l : EReal)) + ∑ l, b l * (v l : EReal) := by
  have e : ∀ l, ((∑ k, (h k : EReal) * (u k l : EReal)) + b l) * (v l : EReal)
      = (((∑ k, h k * u k l) * v l : ℝ) : EReal) + b l * (v l : EReal) := by
    intro l
    have : (∑ k, (h k : EReal) * (u k l : EReal)) = ((∑ k, h k * u k l : ℝ) : EReal) := by
      rw [coe_sum]; exact Finset.sum_congr rfl fun k _ => (EReal.coe_mul _ _).symm
    rw [this, add_mul_real, EReal.coe_mul]
  rw [Finset.sum_congr rfl fun l _ => e l, Finset.sum_add_distrib]
  congr 1
  have : ∀ k, (h k : EReal) * ∑ l, (u k l : EReal) * (v l : EReal) = ((h k * ∑ l, u k l * v l : ℝ) : EReal) := by
    intro k
    rw [EReal.coe_mul, coe_sum]
    rfl
  rw [Finset.sum_congr rfl fun k _ => this k, ← coe_sum, ← coe_sum]
  congr 1
  simp only [Finset.sum_mul, Finset.mul_sum]
  rw [Finset.sum_comm]
  exact Finset.sum_congr rfl fun k _ => Finset.sum_congr rfl fun l _ => by ring

/-- Adding the same number to every element adds it to their maximum. -/
theorem fold_max_add {n : ℕ} (f : Fin n → EReal) (b : EReal) :
    (Finset.univ.fold max ⊥ fun t => f t) + b = Finset.univ.fold max ⊥ fun t => f t + b := by
  classical
  suffices h : ∀ s : Finset (Fin n), (s.fold max ⊥ fun t => f t) + b = s.fold max ⊥ fun t => f t + b from h _
  intro s
  induction s using Finset.induction_on with
  | empty => simp
  | insert a s ha ih =>
    rw [Finset.fold_insert ha, Finset.fold_insert ha, ← ih]
    exact (show Monotone fun x : EReal => x + b from fun x y h => add_le_add_left h b).map_max

/-- The sum of 512 copies of a number is 512 times it. -/
theorem sum_const_512 (b : EReal) : ∑ _p : Fin 512, b = ((512 : ℝ) : EReal) * b := by
  rw [Finset.sum_const, Finset.card_univ, Fintype.card_fin]
  have := EReal.nsmul_eq_mul 512 b
  rw [this]; norm_cast

/-- A point's pose-relative coordinates: moved to the agent's position, turned by its heading, heading subtracted. -/
def near (c s px py th : EReal) (P : Fin 3 → EReal) : Fin 3 → EReal :=
  ![(P 0 - px) * c + (P 1 - py) * s, -(P 0 - px) * s + (P 1 - py) * c, P 2 - th]

/-- The first layer of the point-wise network, on pose-relative coordinates. -/
def layer1 (W1 : Fin 3 → Fin 128 → EReal) (b1 : Fin 128 → EReal) (P : Fin 3 → EReal) (k : Fin 128) : EReal :=
  max ((∑ a, P a * W1 a k) + b1 k) 0

/-- The first layer with the pose folded into its weights: its turned weight rows. -/
def turned (c s : EReal) (W1 : Fin 3 → Fin 128 → EReal) (k : Fin 128) : Fin 3 → EReal :=
  ![c * W1 0 k - s * W1 1 k, s * W1 0 k + c * W1 1 k, W1 2 k]

/-- The first layer with the pose folded into its weights: its moved bias. -/
def moved (c s px py th : EReal) (W1 : Fin 3 → Fin 128 → EReal) (b1 : Fin 128 → EReal) (k : Fin 128) : EReal :=
  b1 k - (px * c + py * s) * W1 0 k + (px * s - py * c) * W1 1 k - th * W1 2 k

/-- The first layer with the pose folded into its weights, on the plain coordinates. -/
def layer1' (c s px py th : EReal) (W1 : Fin 3 → Fin 128 → EReal) (b1 : Fin 128 → EReal) (P : Fin 3 → EReal)
    (k : Fin 128) : EReal :=
  max ((∑ a, P a * turned c s W1 k a) + moved c s px py th W1 b1 k) 0

/-- On real inputs the first layer is a real number. -/
theorem layer1_real (W1 : Fin 3 → Fin 128 → EReal) (b1 : Fin 128 → EReal) (hW : ∀ a k, ∃ r : ℝ, W1 a k = r)
    (hb : ∀ k, ∃ r : ℝ, b1 k = r) (P : Fin 3 → EReal) (hP : ∀ a, ∃ r : ℝ, P a = r) (k : Fin 128) :
    ∃ r : ℝ, layer1 W1 b1 P k = r := by
  choose w hw using hW
  choose b hb using hb
  choose p hp using hP
  refine ⟨max (p 0 * w 0 k + p 1 * w 1 k + p 2 * w 2 k + b k) 0, ?_⟩
  simp only [layer1, Fin.sum_univ_three, hw, hb, hp]
  rw [EReal.coe_strictMono.monotone.map_max]
  norm_cast

/-- Folding the pose into the first layer's weights does not change it, on real inputs. -/
theorem layer1_fold (c s px py th : ℝ) (W1 : Fin 3 → Fin 128 → EReal) (b1 : Fin 128 → EReal)
    (hW : ∀ a k, ∃ r : ℝ, W1 a k = r) (hb : ∀ k, ∃ r : ℝ, b1 k = r) (P : Fin 3 → EReal) (hP : ∀ a, ∃ r : ℝ, P a = r)
    (k : Fin 128) : layer1' c s px py th W1 b1 P k = layer1 W1 b1 (near c s px py th P) k := by
  choose w hw using hW
  choose b hb using hb
  choose p hp using hP
  simp only [layer1, layer1', Fin.sum_univ_three, near, turned, moved, Matrix.cons_val, hw, hb, hp]
  congr 1
  norm_cast
  ring

/-- Pose-relative coordinates of real coordinates are real. -/
theorem near_real (c s px py th : ℝ) (P : Fin 3 → EReal) (hP : ∀ a, ∃ r : ℝ, P a = r) (a : Fin 3) :
    ∃ r : ℝ, near c s px py th P a = r := by
  choose p hp using hP
  fin_cases a
  · exact ⟨(p 0 - px) * c + (p 1 - py) * s, by simp only [near, hp]; norm_cast⟩
  · exact ⟨-(p 0 - px) * s + (p 1 - py) * c, by simp only [near, hp]; norm_cast⟩
  · exact ⟨p 2 - th, by simp only [near, hp]; norm_cast⟩

section Map

variable (h : Fin 20 → Fin 128 → EReal) (W2 : Fin 128 → Fin 256 → EReal) (b2 : Fin 256 → EReal)
variable (W3 : Fin 512 → Fin 256 → EReal) (W3a W3b : Fin 256 → Fin 256 → EReal) (b3 : Fin 256 → EReal)
variable (W4 : Fin 256 → Fin 256 → EReal) (b4 : Fin 256 → EReal)

/-- The second layer of one point. -/
def layer2 (t : Fin 20) (l : Fin 256) : EReal := (∑ k, h t k * W2 k l) + b2 l

/-- A point's second layer beside the maximum of the second layer over its polyline. -/
def both (t : Fin 20) (i : Fin 512) : EReal :=
  if hi : (i : ℕ) < 256 then layer2 h W2 b2 t ⟨i, hi⟩
  else Finset.univ.fold max ⊥ fun t => layer2 h W2 b2 t ⟨i - 256, by omega⟩

/-- One polyline's features: the maximum over its points of the fourth layer. -/
def poly (d : Fin 256) : EReal :=
  Finset.univ.fold max ⊥ fun t => (∑ j, max ((∑ i, both h W2 b2 t i * W3 i j) + b3 j) 0 * W4 j d) + b4 d

/-- One polyline's features, second layer and upper half of the third multiplied ahead, last bias left out. -/
def poly' (d : Fin 256) : EReal :=
  Finset.univ.fold max ⊥ fun t => ∑ j, max ((∑ k, h t k * ∑ l, W2 k l * W3a l j)
    + ((∑ l, ((Finset.univ.fold max ⊥ fun t => ∑ k, h t k * W2 k l) + b2 l) * W3b l j) + (∑ l, b2 l * W3a l j) + b3 j)) 0
      * W4 j d

/-- The two computations of a polyline's features agree, up to the last bias. -/
theorem poly_eq (hh : ∀ t k, ∃ r : ℝ, h t k = r) (hW2 : ∀ k l, ∃ r : ℝ, W2 k l = r) (hW3 : ∀ l j, ∃ r : ℝ, W3a l j = r)
    (ha : ∀ (l : Fin 256) (j), W3 ⟨l, by omega⟩ j = W3a l j)
    (hb : ∀ (l : Fin 256) (j), W3 ⟨256 + l, by omega⟩ j = W3b l j) (d : Fin 256) :
    poly' h W2 b2 W3a W3b b3 W4 d + b4 d = poly h W2 b2 W3 b3 W4 b4 d := by
  unfold poly poly'
  rw [fold_max_add]
  congr 1
  funext t
  congr 1
  refine Finset.sum_congr rfl fun j _ => ?_
  congr 2
  rw [show (∑ i, both h W2 b2 t i * W3 i j)
      = (∑ l, layer2 h W2 b2 t l * W3a l j) + ∑ l, (Finset.univ.fold max ⊥ fun t => layer2 h W2 b2 t l) * W3b l j from by
    rw [Fin.sum_univ_add (a := 256) (b := 256) (fun i => both h W2 b2 t i * W3 i j)]
    congr 1
    · refine Finset.sum_congr rfl fun l _ => ?_
      rw [← ha]
      congr 1
      exact dif_pos l.isLt
    · refine Finset.sum_congr rfl fun l _ => ?_
      rw [← hb]
      congr 1
      unfold both
      rw [dif_neg (by simp [Fin.natAdd])]
      congr 1
      funext t
      congr 1
      apply Fin.ext
      simp [Fin.natAdd]]
  choose x hx using hh
  choose u hu using hW2
  choose v hv using hW3
  have e := two_layers (x t) u b2 (fun l => v l j)
  simp only [layer2, ← fold_max_add]
  simp only [hx, hu, hv] at e ⊢
  rw [e]
  ac_rfl

end Map

/-- Summed over the 512 polylines the last bias comes out as 512 times itself. -/
theorem sum_bias (f : Fin 512 → EReal) (b : EReal) : (∑ p, f p) + ((512 : ℝ) : EReal) * b = ∑ p, (f p + b) := by
  rw [Finset.sum_add_distrib, sum_const_512]

/-- The goal's layer written out is the product of its pose-relative coordinates with the weights. -/
theorem goal_eq (c s px py th g0 g1 g2 w0 w1 w2 : EReal) :
    ((g0 - px) * c + (g1 - py) * s) * w0 + ((g1 - py) * c - (g0 - px) * s) * w1 + (g2 - th) * w2
      = ∑ a, near c s px py th ![g0, g1, g2] a * (![w0, w1, w2] : Fin 3 → EReal) a := by
  simp only [Fin.sum_univ_three, near, Matrix.cons_val]
  rw [sub_eq_add_neg ((g1 - py) * c), EReal.neg_mul, add_comm (-((g0 - px) * s))]

end Cert.Encoder

end
-- ==== Proof.Hidden.lean ====
module

public import proofs.«01_k».proof.Proof.Block
public import proofs.«01_k».proof.Proof.Spec
public import Idealize.ShloMosaic.Lib.Pointwise
public import Idealize.ShloMosaic.Lib.Pipeline.Value

@[expose] public section

set_option maxRecDepth 16384

noncomputable section

namespace Cert.Encoder

open Idealize.ShloMosaic Idealize.ShloMosaic.TcCoe Idealize.SL.Sem
open Cert.KernelIdeal Cert.KernelIdeal.Gen

/-- The three loaded rows of the first layer's weights as one matrix. -/
def rows3 {n : ℕ} (w0 w1 w2 : FVec Ideal ⟨2, ![1, n]⟩ .f32) (a : Fin 3) (k : Fin n) : EReal :=
  (![w0 (ix2 0 k), w1 (ix2 0 k), w2 (ix2 0 k)] : Fin 3 → EReal) a

/-- The first layer's bias moved by the pose, as the body computes it: one row. -/
def movedRow (px py th : FVec Ideal S1x1x1 .f32) (w0 w1 w2 b1 : FVec Ideal S1x128 .f32) : FVec Ideal S1x128 .f32 :=
  subf
    (addf
      (subf (shapeCast S1x128 b1 shapeCasts_S1x128_S1x128)
        (mulf (broadcastTo S1x128 (addf (mulf (k0_pay2 px) (k0_pay5 th)) (mulf (k0_pay3 py) (k0_pay6 th)))
          broadcasts_S1x1_S1x128) w0))
      (mulf (broadcastTo S1x128 (subf (mulf (k0_pay2 px) (k0_pay6 th)) (mulf (k0_pay3 py) (k0_pay5 th)))
        broadcasts_S1x1_S1x128) w1))
    (mulf (broadcastTo S1x128 (k0_pay4 th) broadcasts_S1x1_S1x128) w2)

/-- The bias the body adds ahead of the first rectifier: the moved bias, repeated for each of the 20 points. -/
theorem bias_apply (px py th : FVec Ideal S1x1x1 .f32) (w0 w1 w2 b1 : FVec Ideal S1x128 .f32) (n : Fin 2560) (k : Fin 128)
    (hk : (k : ℕ) = n % 128) :
    k0_pay7 (F := Ideal) px py th w0 w1 w2 b1 (ix2 0 n)
      = moved (Ideal.cos (th (ix3 0 0 0))) (Ideal.sin (th (ix3 0 0 0))) (px (ix3 0 0 0)) (py (ix3 0 0 0)) (th (ix3 0 0 0))
          (rows3 w0 w1 w2) (fun k => b1 (ix2 0 k)) k := by
  refine Eq.trans (concatenate_replicate_apply (t := S1x2560) (s₁ := S1x128) 1 20 (movedRow px py th w0 w1 w2 b1)
    concatenates_S1x128_S1x128_S1x128_S1x128_S1x128_S1x128_S1x128_S1x128_S1x128_S1x128_S1x128_S1x128_S1x128_S1x128_S1x128_S1x128_S1x128_S1x128_S1x128_S1x128_S1x2560_d1
    rfl (ix2 0 n) (ix2 0 k) hk ?_) ?_
  · intro b hb
    match b with
    | ⟨0, _⟩ => rfl
    | ⟨1, _⟩ => exact absurd rfl hb
  · pointwise [movedRow, k0_pay2, k0_pay3, k0_pay4, k0_pay5, k0_pay6]
    rfl

/-- The turned rows of the first layer's weights as the body computes them: one matrix of three rows. -/
def turnedRows (th : FVec Ideal S1x1x1 .f32) (w0 w1 w2 : FVec Ideal S1x128 .f32) : FVec Ideal S3x128 .f32 :=
  concatenate S3x128 0
    [⟨S1x128, subf (mulf (broadcastTo S1x128 (k0_pay5 th) broadcasts_S1x1_S1x128) w0)
        (mulf (broadcastTo S1x128 (k0_pay6 th) broadcasts_S1x1_S1x128) w1)⟩,
      ⟨S1x128, addf (mulf (broadcastTo S1x128 (k0_pay6 th) broadcasts_S1x1_S1x128) w0)
        (mulf (broadcastTo S1x128 (k0_pay5 th) broadcasts_S1x1_S1x128) w1)⟩,
      ⟨S1x128, w2⟩]
    concatenates_S1x128_S1x128_S1x128_S3x128_d0

/-- The weights the body multiplies the 60 coordinates of a polyline with: the turned rows, repeated for each point. -/
theorem weight_apply (th : FVec Ideal S1x1x1 .f32) (w0 w1 w2 : FVec Ideal S1x128 .f32) (q : Fin 60) (k : Fin 128) (a : Fin 3)
    (ha : (a : ℕ) = q % 3) :
    k0_pay8 (F := Ideal) th w0 w1 w2 (ix2 q k)
      = turned (Ideal.cos (th (ix3 0 0 0))) (Ideal.sin (th (ix3 0 0 0))) (rows3 w0 w1 w2) k a := by
  refine Eq.trans (concatenate_replicate_apply (t := S60x128) (s₁ := S3x128) 0 20 (turnedRows th w0 w1 w2)
    concatenates_S3x128_S3x128_S3x128_S3x128_S3x128_S3x128_S3x128_S3x128_S3x128_S3x128_S3x128_S3x128_S3x128_S3x128_S3x128_S3x128_S3x128_S3x128_S3x128_S3x128_S60x128_d0
    rfl (ix2 q k) (ix2 a k) ha ?_) ?_
  · intro b hb
    match b with
    | ⟨0, _⟩ => exact absurd rfl hb
    | ⟨1, _⟩ => rfl
  · clear ha
    fin_cases a
    all_goals
      pointwise [turnedRows, k0_pay4, k0_pay5, k0_pay6]
      rfl

/-- The hidden layer at one polyline and one of the 2560 columns: a rectified sum over the polyline's 60 coordinates. -/
theorem hid_apply (px py th : FVec Ideal S1x1x1 .f32) (w0 w1 w2 b1 : FVec Ideal S1x128 .f32) (mask : FVec Ideal S60x2560 .f32)
    (pts : FVec Ideal S1x512x60 .f32) (p : Fin 512) (n : Fin 2560) (k : Fin 128) (hk : (k : ℕ) = n % 128) :
    hid (F := Ideal) px py th w0 w1 w2 b1 mask pts (ix2 p n)
      = max ((∑ q : Fin 60, pts (ix3 0 p q) * (turned (Ideal.cos (th (ix3 0 0 0))) (Ideal.sin (th (ix3 0 0 0)))
            (rows3 w0 w1 w2) k ⟨q % 3, Nat.mod_lt _ (by decide)⟩ * mask (ix2 q n)))
          + moved (Ideal.cos (th (ix3 0 0 0))) (Ideal.sin (th (ix3 0 0 0))) (px (ix3 0 0 0)) (py (ix3 0 0 0))
            (th (ix3 0 0 0)) (rows3 w0 w1 w2) (fun k => b1 (ix2 0 k)) k) 0 := by
  have hc : ∀ q : Fin 60, concatenate S60x2560 1 (List.replicate 20 ⟨S60x128, k0_pay8 (F := Ideal) th w0 w1 w2⟩)
      concatenates_S60x128_S60x128_S60x128_S60x128_S60x128_S60x128_S60x128_S60x128_S60x128_S60x128_S60x128_S60x128_S60x128_S60x128_S60x128_S60x128_S60x128_S60x128_S60x128_S60x128_S60x2560_d1
      (ix2 q n) = k0_pay8 (F := Ideal) th w0 w1 w2 (ix2 q k) := by
    intro q
    refine concatenate_replicate_apply (t := S60x2560) (s₁ := S60x128) 1 20 (k0_pay8 (F := Ideal) th w0 w1 w2) _ rfl (ix2 q n) (ix2 q k) hk ?_
    intro b hb
    match b with
    | ⟨0, _⟩ => rfl
    | ⟨1, _⟩ => exact absurd rfl hb
  rw [← bias_apply px py th w0 w1 w2 b1 n k hk]
  rw [Finset.sum_congr rfl fun q _ => by rw [← weight_apply th w0 w1 w2 q k ⟨q % 3, Nat.mod_lt _ (by decide)⟩ rfl, ← hc q]]
  unfold hid k0_pay11
  generalize k0_pay7 (F := Ideal) px py th w0 w1 w2 b1 = bias
  generalize k0_pay8 (F := Ideal) th w0 w1 w2 = w
  change _ = max ((∑ q : Fin 60, pts (ix3 0 p q) * (mulf (F := Ideal) (concatenate S60x2560 1 (List.replicate 20 ⟨S60x128, w⟩)
      concatenates_S60x128_S60x128_S60x128_S60x128_S60x128_S60x128_S60x128_S60x128_S60x128_S60x128_S60x128_S60x128_S60x128_S60x128_S60x128_S60x128_S60x128_S60x128_S60x128_S60x128_S60x2560_d1) mask (ix2 q n))) + bias (ix2 0 n)) 0
  change maximumf (addf (truncf .bf16 (matmul dot_S512x60_S60x2560_S512x2560_1_0_0_1_n_n none _ (truncf .bf16 (mulf (F := Ideal) (concatenate S60x2560 1 (List.replicate 20 ⟨S60x128, w⟩)
      concatenates_S60x128_S60x128_S60x128_S60x128_S60x128_S60x128_S60x128_S60x128_S60x128_S60x128_S60x128_S60x128_S60x128_S60x128_S60x128_S60x128_S60x128_S60x128_S60x128_S60x128_S60x2560_d1) mask) _) _) _) _) _ (ix2 p n) = _
  generalize mulf (F := Ideal) (concatenate S60x2560 1 (List.replicate 20 ⟨S60x128, w⟩)
      concatenates_S60x128_S60x128_S60x128_S60x128_S60x128_S60x128_S60x128_S60x128_S60x128_S60x128_S60x128_S60x128_S60x128_S60x128_S60x128_S60x128_S60x128_S60x128_S60x128_S60x128_S60x2560_d1) mask = wm
  pointwise

end Cert.Encoder

end
-- ==== Proof.Feature.lean ====
module

public import proofs.«01_k».proof.Proof.Hidden

@[expose] public section

set_option maxRecDepth 16384

noncomputable section

namespace Cert.Encoder

open Idealize.ShloMosaic Idealize.ShloMosaic.TcCoe Idealize.SL.Sem
open Cert.KernelIdeal Cert.KernelIdeal.Gen

/-- The bits of the half-precision negative infinity name the least extended real. -/
theorem bits_bot : Ideal.ofBits .bf16 0xFF80#16 = ⊥ := by
  simp [Ideal.ofBits, Ideal.ieee, -EReal.coe_mul]

/-- The single-precision bits of minus infinity name minus infinity. -/
theorem bits_bot_single : Ideal.ofBits .f32 0xFF800000#32 = ⊥ := by
  simp [Ideal.ofBits, Ideal.ieee, -EReal.coe_mul]

/-- The single-precision bits of infinity name infinity. -/
theorem bits_top_single : Ideal.ofBits .f32 0x7F800000#32 = ⊤ := by
  simp [Ideal.ofBits, Ideal.ieee, -EReal.coe_mul]

/-- The bits of 512 name 512. -/
theorem bits_512 : Ideal.ofBits .f32 0x44000000#32 = ((512 : ℝ) : EReal) := by
  simp [Ideal.ofBits, Ideal.ieee, -EReal.coe_mul]; norm_num

/-- The columns of the hidden layer that belong to point `t` lie inside it. -/
theorem piece_slices (t : Fin 20) : S512x2560.Slices ![0, (t : ℕ) * 128] S512x128 := by
  revert t; decide

/-- The slice of the hidden layer that belongs to one of the 20 points. -/
def piece (h : FVec Ideal S512x2560 .bf16) (t : Fin 20) : FVec Ideal S512x128 .bf16 :=
  extractStridedSlice S512x128 ![0, (t : ℕ) * 128] h (piece_slices t)

/-- The hidden layer with the points below one another instead of beside one another. -/
def stacked (h : FVec Ideal S512x2560 .bf16) : FVec Ideal S10240x128 .bf16 :=
  concatenate S10240x128 0 (List.ofFn fun t : Fin 20 => (⟨S512x128, piece h t⟩ : (s : Shape) × (s.Idx → EReal)))
    concatenates_S512x128_S512x128_S512x128_S512x128_S512x128_S512x128_S512x128_S512x128_S512x128_S512x128_S512x128_S512x128_S512x128_S512x128_S512x128_S512x128_S512x128_S512x128_S512x128_S512x128_S10240x128_d0

/-- A row of the stacked hidden layer is one point of one polyline. -/
theorem stacked_apply (h : FVec Ideal S512x2560 .bf16) (t : Fin 20) (p : Fin 512) (k : Fin 128) :
    stacked h (ix2 ⟨t * 512 + p, by omega⟩ k) = h (ix2 p ⟨128 * t + k, by omega⟩) := by
  refine Eq.trans (concatenate_ofFn_apply (t := S10240x128) (s₁ := S512x128) 0 (piece h)
    concatenates_S512x128_S512x128_S512x128_S512x128_S512x128_S512x128_S512x128_S512x128_S512x128_S512x128_S512x128_S512x128_S512x128_S512x128_S512x128_S512x128_S512x128_S512x128_S512x128_S512x128_S10240x128_d0
    rfl 512 rfl (ix2 ⟨t * 512 + p, by omega⟩ k) t ?_ (ix2 p k) ?_ ?_) ?_
  · change ((t : ℕ) * 512 + p) / 512 = t
    omega
  · change (p : ℕ) = ((t : ℕ) * 512 + p) % 512
    omega
  · intro b hb
    match b with
    | ⟨0, _⟩ => exact absurd rfl hb
    | ⟨1, _⟩ => rfl
  · refine congrArg h (funext fun a => Fin.ext ?_)
    match a with
    | ⟨0, _⟩ => exact Nat.zero_add _
    | ⟨1, _⟩ => exact congrArg (· + (k : ℕ)) (Nat.mul_comm _ _)

/-- A layer without bias on all points, one plane of the result for each point. -/
def planes (x : FVec Ideal S10240x128 .bf16) (W : FVec Ideal S128x256 .bf16) : FVec Ideal S20x512x256 .bf16 :=
  shapeCast S20x512x256 (truncf .bf16 (matmul dot_S10240x128_S128x256_S10240x256_1_0_0_1_n_n none x W
    (constant S10240x256 .f32 0x00000000#32)) bitsLt_bf16_f32) shapeCasts_S10240x256_S20x512x256

/-- One entry of such a layer. -/
theorem planes_apply (x : FVec Ideal S10240x128 .bf16) (W : FVec Ideal S128x256 .bf16) (t : Fin 20) (p : Fin 512)
    (l : Fin 256) : planes x W (ix3 t p l) = ∑ k : Fin 128, x (ix2 ⟨t * 512 + p, by omega⟩ k) * W (ix2 k l) := by
  pointwise [planes]

/-- The maximum over the points. -/
def peak (y : FVec Ideal S20x512x256 .bf16) : FVec Ideal S512x256 .f32 :=
  extf .f32 (multiReduction .maximumf [0] S512x256 y 0xFF80#16 reduces_S20x512x256_S512x256 (.inr rfl) rfl)
    bitsLt_bf16_f32

/-- One entry of the maximum over the points. -/
theorem peak_apply (y : FVec Ideal S20x512x256 .bf16) (p : Fin 512) (l : Fin 256) :
    peak y (ix2 p l) = Finset.univ.fold max ⊥ fun t : Fin 20 => y (ix3 t p l) := by
  rw [← bits_bot]
  pointwise [peak]

/-- The half of the third layer that all points of a polyline share. -/
def shared (m : FVec Ideal S512x256 .f32) (c : FVec Ideal S1x256 .f32) (b2 : FVec Ideal S1x256 .f32)
    (W3b : FVec Ideal S256x256 .bf16) (b3 : FVec Ideal S1x256 .f32) : FVec Ideal S512x256 .bf16 :=
  truncf .bf16 (addf (addf (matmul dot_S512x256_S256x256_S512x256_1_0_0_1_n_n none
        (truncf .bf16 (addf m (broadcastTo S512x256 (shapeCast S1x256 b2 shapeCasts_S1x256_S1x256)
          broadcasts_S1x256_S512x256)) bitsLt_bf16_f32)
        (shapeCast S256x256 W3b shapeCasts_S256x256_S256x256) (constant S512x256 .f32 0x00000000#32))
      (broadcastTo S512x256 c broadcasts_S1x256_S512x256))
    (broadcastTo S512x256 (shapeCast S1x256 b3 shapeCasts_S1x256_S1x256) broadcasts_S1x256_S512x256)) bitsLt_bf16_f32

/-- One entry of the shared half. -/
theorem shared_apply (m : FVec Ideal S512x256 .f32) (c : FVec Ideal S1x256 .f32) (b2 : FVec Ideal S1x256 .f32)
    (W3b : FVec Ideal S256x256 .bf16) (b3 : FVec Ideal S1x256 .f32) (p : Fin 512) (j : Fin 256) :
    shared m c b2 W3b b3 (ix2 p j)
      = (∑ l : Fin 256, (m (ix2 p l) + b2 (ix2 0 l)) * W3b (ix2 l j)) + c (ix2 0 j) + b3 (ix2 0 j) := by
  pointwise [shared]

/-- The third layer rectified and the fourth layer without bias, one plane for each point. -/
def fourth (y : FVec Ideal S20x512x256 .bf16) (u : FVec Ideal S512x256 .bf16) (W4 : FVec Ideal S256x256 .bf16) :
    FVec Ideal S20x512x256 .bf16 :=
  shapeCast S20x512x256 (truncf .bf16 (matmul dot_S10240x256_S256x256_S10240x256_1_0_0_1_n_n none
    (shapeCast S10240x256 (maximumf (addf y (broadcastTo S20x512x256
        (shapeCast S1x512x256 u shapeCasts_S512x256_S1x512x256) broadcasts_S1x512x256_S20x512x256))
      (broadcast S20x512x256 (Scalar.ofBits .bf16 0x0000#16))) shapeCasts_S20x512x256_S10240x256)
    (shapeCast S256x256 W4 shapeCasts_S256x256_S256x256) (constant S10240x256 .f32 0x00000000#32)) bitsLt_bf16_f32)
    shapeCasts_S10240x256_S20x512x256

/-- One entry of the fourth layer. -/
theorem fourth_apply (y : FVec Ideal S20x512x256 .bf16) (u : FVec Ideal S512x256 .bf16) (W4 : FVec Ideal S256x256 .bf16)
    (t : Fin 20) (p : Fin 512) (d : Fin 256) :
    fourth y u W4 (ix3 t p d) = ∑ j : Fin 256, max (y (ix3 t p j) + u (ix2 p j)) 0 * W4 (ix2 j d) := by
  pointwise [fourth]

/-- The features of the map side through the steps above. -/
theorem feat_eq (h : FVec Ideal S512x2560 .bf16) (W2 : FVec Ideal S128x256 .bf16) (b2 : FVec Ideal S1x256 .f32)
    (W3a W3b : FVec Ideal S256x256 .bf16) (b3 : FVec Ideal S1x256 .f32) (W4 : FVec Ideal S256x256 .bf16) :
    feat (F := Ideal) h W2 b2 W3a W3b b3 W4
      = multiReduction .add [0] S256 (peak (fourth (planes (stacked h) (k0_pay9 W2 W3a))
          (shared (peak (planes (stacked h) (shapeCast S128x256 W2 shapeCasts_S128x256_S128x256))) (k0_pay10 b2 W3a)
            b2 W3b b3) W4)) 0x00000000#32 reduces_S512x256_S256 (.inl rfl) rfl := rfl

/-- The features of the map side: the sum over the polylines of each polyline's features. -/
theorem feat_apply (h : FVec Ideal S512x2560 .bf16) (W2 : FVec Ideal S128x256 .bf16) (b2 : FVec Ideal S1x256 .f32)
    (W3a W3b : FVec Ideal S256x256 .bf16) (b3 : FVec Ideal S1x256 .f32) (W4 : FVec Ideal S256x256 .bf16) (d : Fin 256) :
    feat (F := Ideal) h W2 b2 W3a W3b b3 W4 (ix1 d)
      = ∑ p : Fin 512, poly' (fun t k => h (ix2 p ⟨128 * t + k, by omega⟩)) (fun k l => W2 (ix2 k l))
          (fun l => b2 (ix2 0 l)) (fun l j => W3a (ix2 l j)) (fun l j => W3b (ix2 l j)) (fun j => b3 (ix2 0 j))
          (fun j d => W4 (ix2 j d)) d := by
  have h9 : ∀ k l, k0_pay9 (F := Ideal) W2 W3a (ix2 k l) = ∑ i : Fin 256, W2 (ix2 k i) * W3a (ix2 i l) := by
    intro k l; pointwise [k0_pay9]
  have h10 : ∀ j, k0_pay10 (F := Ideal) b2 W3a (ix2 0 j) = ∑ i : Fin 256, b2 (ix2 0 i) * W3a (ix2 i j) := by
    intro j; pointwise [k0_pay10]
  have hw : ∀ k l, shapeCast S128x256 W2 shapeCasts_S128x256_S128x256 (ix2 k l) = W2 (ix2 k l) := by
    intro k l; pointwise
  rw [feat_eq]
  have e : ∀ y : FVec Ideal S512x256 .f32, multiReduction (F := Ideal) .add [0] S256 y 0x00000000#32 reduces_S512x256_S256
      (.inl rfl) rfl (ix1 d) = ∑ p : Fin 512, y (ix2 p d) := by
    intro y; pointwise
  rw [e]
  simp only [peak_apply, fourth_apply, planes_apply, shared_apply, stacked_apply, h9, h10, hw, poly']

end Cert.Encoder

end
-- ==== Proof.Row.lean ====
module

public import proofs.«01_k».proof.Proof.Feature

@[expose] public section

set_option maxRecDepth 16384

noncomputable section

namespace Cert.Encoder

open Idealize.ShloMosaic Idealize.ShloMosaic.TcCoe Idealize.SL.Sem
open Cert.KernelIdeal Cert.KernelIdeal.Gen

/-- The whole encoder at one batch, one mode and one output column: the goal's layer plus the sum over the polylines
    of each polyline's features, all on pose-relative coordinates. -/
def encode (pose goal : Fin 3 → EReal) (pts : Fin 512 → Fin 20 → Fin 3 → EReal) (W1 : Fin 3 → Fin 128 → EReal)
    (b1 : Fin 128 → EReal) (W2 : Fin 128 → Fin 256 → EReal) (b2 : Fin 256 → EReal) (W3 : Fin 512 → Fin 256 → EReal)
    (b3 : Fin 256 → EReal) (W4 : Fin 256 → Fin 256 → EReal) (b4 : Fin 256 → EReal) (Wg : Fin 3 → Fin 256 → EReal)
    (bg : Fin 256 → EReal) (d : Fin 256) : EReal :=
  (∑ a, near (Ideal.cos (pose 2)) (Ideal.sin (pose 2)) (pose 0) (pose 1) (pose 2) goal a * Wg a d) + bg d
    + ∑ p, poly (fun t => layer1 W1 b1
        (near (Ideal.cos (pose 2)) (Ideal.sin (pose 2)) (pose 0) (pose 1) (pose 2) (pts p t))) W2 b2 W3 b3 W4 b4 d

/-- A sum over the 60 coordinates of a polyline, masked to one point, is the sum over that point's three. -/
theorem collapse (x : Fin 60 → EReal) (w : Fin 3 → EReal) (t : Fin 20) :
    ∑ q : Fin 60, x q * (w ⟨q % 3, Nat.mod_lt _ (by decide)⟩ * (if (q : ℕ) / 3 = t then 1 else 0))
      = ∑ a : Fin 3, x ⟨t * 3 + a, by omega⟩ * w a := by
  rw [← (finProdFinEquiv (m := 20) (n := 3)).sum_comp, Fintype.sum_prod_type, Finset.sum_eq_single t]
  · refine Finset.sum_congr rfl fun a _ => ?_
    have h1 : ((finProdFinEquiv (m := 20) (n := 3) (t, a) : Fin (20 * 3)) : ℕ) = a + 3 * t := rfl
    have hx : (finProdFinEquiv (m := 20) (n := 3) (t, a) : Fin 60) = ⟨t * 3 + a, by omega⟩ :=
      Fin.ext (by rw [h1]; simp only; omega)
    have hw : (⟨((finProdFinEquiv (m := 20) (n := 3) (t, a) : Fin (20 * 3)) : ℕ) % 3, Nat.mod_lt _ (by decide)⟩ : Fin 3) = a :=
      Fin.ext (by simp only [h1]; omega)
    rw [hw, if_pos (by rw [h1]; omega), mul_one, hx]
  · intro i _ hi
    refine Finset.sum_eq_zero fun a _ => ?_
    have h1 : ((finProdFinEquiv (m := 20) (n := 3) (i, a) : Fin (20 * 3)) : ℕ) = a + 3 * i := rfl
    rw [if_neg (by rw [h1]; intro h; exact hi (Fin.ext (by omega))), mul_zero, mul_zero]
  · intro h; exact absurd (Finset.mem_univ t) h

section Body

variable (pts : FVec Ideal S1x512x60 .f32) (px py th gx gy gt : FVec Ideal S1x1x1 .f32) (mask : FVec Ideal S60x2560 .f32)
variable (w0 w1 w2 b1 : FVec Ideal S1x128 .f32) (W2 : FVec Ideal S128x256 .bf16) (b2 : FVec Ideal S1x256 .f32)
variable (W3a W3b : FVec Ideal S256x256 .bf16) (b3 : FVec Ideal S1x256 .f32) (W4 : FVec Ideal S256x256 .bf16)
variable (b4 g0 g1 g2 bg : FVec Ideal S1x256 .f32)

/-- With a mask that keeps each point's own coordinates the hidden layer is the folded first layer of that point. -/
theorem hid_point (hmask : ∀ (q : Fin 60) (n : Fin 2560), mask (ix2 q n) = if (q : ℕ) / 3 = n / 128 then 1 else 0)
    (p : Fin 512) (t : Fin 20) (k : Fin 128) :
    hid (F := Ideal) px py th w0 w1 w2 b1 mask pts (ix2 p ⟨128 * t + k, by omega⟩)
      = layer1' (Ideal.cos (th (ix3 0 0 0))) (Ideal.sin (th (ix3 0 0 0))) (px (ix3 0 0 0)) (py (ix3 0 0 0))
          (th (ix3 0 0 0)) (rows3 w0 w1 w2) (fun k => b1 (ix2 0 k)) (fun a => pts (ix3 0 p ⟨t * 3 + a, by omega⟩)) k := by
  rw [hid_apply px py th w0 w1 w2 b1 mask pts p _ k (by simp only; omega)]
  unfold layer1'
  rw [← collapse (fun q => pts (ix3 0 p q)) _ t]
  congr 2
  refine Finset.sum_congr rfl fun q _ => ?_
  rw [hmask]
  congr 2
  simp only [eq_iff_iff]
  rw [show (128 * (t : ℕ) + k) / 128 = t by omega]

/-- What the body writes at one column, with the map side still folded. -/
theorem row_read (d : Fin 256) :
    row (F := Ideal) pts px py th gx gy gt mask w0 w1 w2 b1 W2 b2 W3a W3b b3 W4 b4 g0 g1 g2 bg (ix3 0 0 d)
      = (∑ a, near (Ideal.cos (th (ix3 0 0 0))) (Ideal.sin (th (ix3 0 0 0))) (px (ix3 0 0 0)) (py (ix3 0 0 0))
            (th (ix3 0 0 0)) ![gx (ix3 0 0 0), gy (ix3 0 0 0), gt (ix3 0 0 0)] a * rows3 g0 g1 g2 a d) + bg (ix2 0 d)
        + (feat (F := Ideal) (hid px py th w0 w1 w2 b1 mask pts) W2 b2 W3a W3b b3 W4 (ix1 d)
            + ((512 : ℝ) : EReal) * b4 (ix2 0 d)) := by
  unfold rows3
  rw [← goal_eq, ← bits_512]
  unfold row
  generalize feat (F := Ideal) (hid px py th w0 w1 w2 b1 mask pts) W2 b2 W3a W3b b3 W4 = f
  pointwise [k0_pay32, k0_pay31, k0_pay2, k0_pay3, k0_pay4, k0_pay5, k0_pay6]

/-- What the body writes for one batch and mode is the encoder there, on real poses, points and inner layers. -/
theorem row_apply (hmask : ∀ (q : Fin 60) (n : Fin 2560), mask (ix2 q n) = if (q : ℕ) / 3 = n / 128 then 1 else 0)
    (hpx : ∃ r : ℝ, px (ix3 0 0 0) = r) (hpy : ∃ r : ℝ, py (ix3 0 0 0) = r) (hth : ∃ r : ℝ, th (ix3 0 0 0) = r)
    (hpts : ∀ p q, ∃ r : ℝ, pts (ix3 0 p q) = r) (hW1 : ∀ a k, ∃ r : ℝ, rows3 w0 w1 w2 a k = r)
    (hb1 : ∀ k, ∃ r : ℝ, b1 (ix2 0 k) = r) (hW2 : ∀ k l, ∃ r : ℝ, W2 (ix2 k l) = r)
    (hW3 : ∀ l j, ∃ r : ℝ, W3a (ix2 l j) = r) (W3 : Fin 512 → Fin 256 → EReal)
    (ha : ∀ (l : Fin 256) (j), W3 ⟨l, by omega⟩ j = W3a (ix2 l j))
    (hb : ∀ (l : Fin 256) (j), W3 ⟨256 + l, by omega⟩ j = W3b (ix2 l j)) (d : Fin 256) :
    row (F := Ideal) pts px py th gx gy gt mask w0 w1 w2 b1 W2 b2 W3a W3b b3 W4 b4 g0 g1 g2 bg (ix3 0 0 d)
      = encode ![px (ix3 0 0 0), py (ix3 0 0 0), th (ix3 0 0 0)] ![gx (ix3 0 0 0), gy (ix3 0 0 0), gt (ix3 0 0 0)]
          (fun p t a => pts (ix3 0 p ⟨t * 3 + a, by omega⟩)) (rows3 w0 w1 w2) (fun k => b1 (ix2 0 k))
          (fun k l => W2 (ix2 k l)) (fun l => b2 (ix2 0 l)) W3 (fun j => b3 (ix2 0 j)) (fun j d => W4 (ix2 j d))
          (fun d => b4 (ix2 0 d)) (rows3 g0 g1 g2) (fun d => bg (ix2 0 d)) d := by
  rw [row_read, feat_apply, sum_bias (fun p => _)]
  unfold encode
  simp only [Matrix.cons_val]
  congr 1
  refine Finset.sum_congr rfl fun p _ => ?_
  obtain ⟨x, hx⟩ := hpx
  obtain ⟨y, hy⟩ := hpy
  obtain ⟨r, hr⟩ := hth
  have hl : ∀ (t : Fin 20) (k : Fin 128), hid (F := Ideal) px py th w0 w1 w2 b1 mask pts (ix2 p ⟨128 * t + k, by omega⟩)
      = layer1 (rows3 w0 w1 w2) (fun k => b1 (ix2 0 k)) (near (Ideal.cos (th (ix3 0 0 0))) (Ideal.sin (th (ix3 0 0 0)))
          (px (ix3 0 0 0)) (py (ix3 0 0 0)) (th (ix3 0 0 0)) (fun a => pts (ix3 0 p ⟨t * 3 + a, by omega⟩))) k := by
    intro t k
    rw [hid_point pts px py th mask w0 w1 w2 b1 hmask, hx, hy, hr, Ideal.cos_coe, Ideal.sin_coe]
    exact layer1_fold _ _ _ _ _ _ _ hW1 hb1 _ (fun a => hpts p _) k
  simp only [hl]
  refine poly_eq (fun t => layer1 (rows3 w0 w1 w2) (fun k => b1 (ix2 0 k)) (near (Ideal.cos (th (ix3 0 0 0)))
      (Ideal.sin (th (ix3 0 0 0))) (px (ix3 0 0 0)) (py (ix3 0 0 0)) (th (ix3 0 0 0))
      (fun a => pts (ix3 0 p ⟨t * 3 + a, by omega⟩)))) (fun k l => W2 (ix2 k l)) (fun l => b2 (ix2 0 l)) W3
    (fun l j => W3a (ix2 l j)) (fun l j => W3b (ix2 l j)) (fun j => b3 (ix2 0 j)) (fun j d => W4 (ix2 j d))
    (fun d => b4 (ix2 0 d)) ?_ hW2 hW3 ha hb d
  intro t k
  refine layer1_real _ _ hW1 hb1 _ ?_ k
  intro a
  rw [hx, hy, hr, Ideal.cos_coe, Ideal.sin_coe]
  exact near_real _ _ _ _ _ _ (fun a => hpts p _) a

end Body

/-- What the encoder answers for batch `b`, mode `q` and feature `d`, in the arguments as they are given. -/
def answer (goal pose : FVec Ideal S8x6x3 .f32) (pts : FVec Ideal S8x6x512x20x3 .f32) (W1 : FVec Ideal S3x128 .f32)
    (b1 : FVec Ideal S128 .f32) (W2 : FVec Ideal S128x256 .f32) (b2 : FVec Ideal S256 .f32) (W3 : FVec Ideal S512x256 .f32)
    (b3 : FVec Ideal S256 .f32) (W4 : FVec Ideal S256x256 .f32) (b4 : FVec Ideal S256 .f32) (Wg : FVec Ideal S3x256 .f32)
    (bg : FVec Ideal S256 .f32) (b : Fin 8) (q : Fin 6) (d : Fin 256) : EReal :=
  encode (fun a => pose (ix3 b q a)) (fun a => goal (ix3 b q a)) (fun p t a => pts (ix5 b q p t a)) (fun a k => W1 (ix2 a k))
    (fun k => b1 (ix1 k)) (fun k l => W2 (ix2 k l)) (fun l => b2 (ix1 l)) (fun l j => W3 (ix2 l j)) (fun j => b3 (ix1 j))
    (fun j d => W4 (ix2 j d)) (fun d => b4 (ix1 d)) (fun a d => Wg (ix2 a d)) (fun d => bg (ix1 d)) d

end Cert.Encoder

end
-- ==== Proof.Tile.lean ====
module

public import proofs.«01_k».proof.Proof.Row
public import Idealize.ShloMosaic.Lib.Pipeline.ValueKit

@[expose] public section

set_option maxRecDepth 16384

noncomputable section

namespace Cert.Encoder

open Idealize.ShloMosaic Idealize.ShloMosaic.TcCoe Idealize.SL.Sem
open Cert.KernelIdeal Cert.KernelIdeal.Gen

variable (x0 : FVec Ideal S4x512x60 .f32) (x1 x2 : FVec Ideal S4x1x3 .f32) (x3 : FVec Ideal S60x2560 .f32)
variable (x4 : FVec Ideal S3x128 .f32) (x5 : FVec Ideal S1x128 .f32) (x6 : FVec Ideal S128x256 .bf16)
variable (x7 : FVec Ideal S1x256 .f32) (x8 x9 : FVec Ideal S256x256 .bf16) (x10 : FVec Ideal S1x256 .f32)
variable (x11 : FVec Ideal S256x256 .bf16) (x12 : FVec Ideal S1x256 .f32) (x13 : FVec Ideal S3x256 .f32)
variable (x14 : FVec Ideal S1x256 .f32)

/-- The encoder at row `r` of a block, read off the block's inputs. -/
def tile (W3 : Fin 512 → Fin 256 → EReal) (r : Fin 4) (d : Fin 256) : EReal :=
  encode (fun a => x1 (ix3 r 0 a)) (fun a => x2 (ix3 r 0 a)) (fun p t a => x0 (ix3 r p ⟨t * 3 + a, by omega⟩))
    (fun a k => x4 (ix2 a k)) (fun k => x5 (ix2 0 k)) (fun k l => x6 (ix2 k l)) (fun l => x7 (ix2 0 l)) W3
    (fun j => x10 (ix2 0 j)) (fun j d => x11 (ix2 j d)) (fun d => x12 (ix2 0 d)) (fun a d => x13 (ix2 a d))
    (fun d => x14 (ix2 0 d)) d

/-- A matrix of three rows is the stack of its rows. -/
theorem rows3_eq {n : ℕ} (w0 w1 w2 : FVec Ideal ⟨2, ![1, n]⟩ .f32) (w : FVec Ideal ⟨2, ![3, n]⟩ .f32)
    (h0 : ∀ k, w0 (ix2 0 k) = w (ix2 0 k)) (h1 : ∀ k, w1 (ix2 0 k) = w (ix2 1 k)) (h2 : ∀ k, w2 (ix2 0 k) = w (ix2 2 k)) :
    rows3 w0 w1 w2 = fun a k => w (ix2 a k) := by
  funext a k
  unfold rows3
  fin_cases a
  · exact h0 k
  · exact h1 k
  · exact h2 k

/-- The triple of three loaded numbers is the row they were loaded from. -/
theorem triple_eq (x : FVec Ideal S4x1x3 .f32) (u v w : FVec Ideal S1x1x1 .f32) (r : Fin 4)
    (h0 : u (ix3 0 0 0) = x (ix3 r 0 0)) (h1 : v (ix3 0 0 0) = x (ix3 r 0 1)) (h2 : w (ix3 0 0 0) = x (ix3 r 0 2)) :
    (![u (ix3 0 0 0), v (ix3 0 0 0), w (ix3 0 0 0)] : Fin 3 → EReal) = fun a => x (ix3 r 0 a) := by
  funext a
  fin_cases a
  · exact h0
  · exact h1
  · exact h2

/-- One stored row is the encoder there, whichever way its operands were loaded. -/
theorem row_tile (hmask : ∀ (q : Fin 60) (n : Fin 2560), x3 (ix2 q n) = if (q : ℕ) / 3 = n / 128 then 1 else 0)
    (h0 : ∀ i, ∃ r : ℝ, x0 i = r) (h1 : ∀ i, ∃ r : ℝ, x1 i = r) (h4 : ∀ i, ∃ r : ℝ, x4 i = r)
    (h5 : ∀ i, ∃ r : ℝ, x5 i = r) (h6 : ∀ i, ∃ r : ℝ, x6 i = r) (h8 : ∀ i, ∃ r : ℝ, x8 i = r)
    (W3 : Fin 512 → Fin 256 → EReal) (ha : ∀ (l : Fin 256) (j), W3 ⟨l, by omega⟩ j = x8 (ix2 l j))
    (hb : ∀ (l : Fin 256) (j), W3 ⟨256 + l, by omega⟩ j = x9 (ix2 l j))
    (r : Fin 4) (pts : FVec Ideal S1x512x60 .f32) (px py th gx gy gt : FVec Ideal S1x1x1 .f32)
    (w0 w1 w2 : FVec Ideal S1x128 .f32) (g0 g1 g2 : FVec Ideal S1x256 .f32)
    (epts : ∀ p q, pts (ix3 0 p q) = x0 (ix3 r p q)) (epx : px (ix3 0 0 0) = x1 (ix3 r 0 0))
    (epy : py (ix3 0 0 0) = x1 (ix3 r 0 1)) (eth : th (ix3 0 0 0) = x1 (ix3 r 0 2))
    (egx : gx (ix3 0 0 0) = x2 (ix3 r 0 0)) (egy : gy (ix3 0 0 0) = x2 (ix3 r 0 1))
    (egt : gt (ix3 0 0 0) = x2 (ix3 r 0 2))
    (e0 : ∀ k, w0 (ix2 0 k) = x4 (ix2 0 k)) (e1 : ∀ k, w1 (ix2 0 k) = x4 (ix2 1 k)) (e2 : ∀ k, w2 (ix2 0 k) = x4 (ix2 2 k))
    (f0 : ∀ k, g0 (ix2 0 k) = x13 (ix2 0 k)) (f1 : ∀ k, g1 (ix2 0 k) = x13 (ix2 1 k))
    (f2 : ∀ k, g2 (ix2 0 k) = x13 (ix2 2 k)) (mask : FVec Ideal S60x2560 .f32) (b1 : FVec Ideal S1x128 .f32)
    (W2 : FVec Ideal S128x256 .bf16) (b2 b3 b4 bg : FVec Ideal S1x256 .f32) (W3a W3b W4 : FVec Ideal S256x256 .bf16)
    (em : mask = x3) (k5 : b1 = x5) (k6 : W2 = x6) (k7 : b2 = x7) (k8 : W3a = x8) (k9 : W3b = x9) (k10 : b3 = x10)
    (k11 : W4 = x11) (k12 : b4 = x12) (k14 : bg = x14) (d : Fin 256) :
    row (F := Ideal) pts px py th gx gy gt mask w0 w1 w2 b1 W2 b2 W3a W3b b3 W4 b4 g0 g1 g2 bg (ix3 0 0 d)
      = tile x0 x1 x2 x4 x5 x6 x7 x10 x11 x12 x13 x14 W3 r d := by
  subst em k5 k6 k7 k8 k9 k10 k11 k12 k14
  have ew := rows3_eq w0 w1 w2 x4 e0 e1 e2
  have ev := rows3_eq g0 g1 g2 x13 f0 f1 f2
  rw [row_apply pts px py th gx gy gt mask w0 w1 w2 b1 W2 b2 W3a W3b b3 W4 b4 g0 g1 g2 bg hmask (epx ▸ h1 _) (epy ▸ h1 _)
    (eth ▸ h1 _) (fun p q => epts p q ▸ h0 _) (fun a k => ew ▸ h4 _) (fun k => h5 _) (fun k l => h6 _) (fun l j => h8 _) W3 ha hb d,
    ew, ev, triple_eq x1 px py th r epx epy eth, triple_eq x2 gx gy gt r egx egy egt]
  simp only [epts]
  rfl

set_option maxHeartbeats 1600000 in
/-- What the body writes at one index of its block is the encoder at that row and column. -/
theorem out_apply (hmask : ∀ (q : Fin 60) (n : Fin 2560), x3 (ix2 q n) = if (q : ℕ) / 3 = n / 128 then 1 else 0)
    (g0 : ∀ i, ∃ r : ℝ, x0 i = r) (g1 : ∀ i, ∃ r : ℝ, x1 i = r) (g4 : ∀ i, ∃ r : ℝ, x4 i = r)
    (g5 : ∀ i, ∃ r : ℝ, x5 i = r) (g6 : ∀ i, ∃ r : ℝ, x6 i = r) (g8 : ∀ i, ∃ r : ℝ, x8 i = r)
    (W3 : Fin 512 → Fin 256 → EReal) (ha : ∀ (l : Fin 256) (j), W3 ⟨l, by omega⟩ j = x8 (ix2 l j))
    (hb : ∀ (l : Fin 256) (j), W3 ⟨256 + l, by omega⟩ j = x9 (ix2 l j)) (y : S4x1x256.Idx) :
    out0_15 (F := Ideal) x0 x1 x2 x3 x4 x5 x6 x7 x8 x9 x10 x11 x12 x13 x14 y
      = tile x0 x1 x2 x4 x5 x6 x7 x10 x11 x12 x13 x14 W3 (y 0) (y 2) := by
  have z : (![0, 0] : Fin 2 → ℕ) = fun _ => 0 := by
    funext a; fin_cases a <;> rfl
  have key := row_tile x0 x1 x2 x3 x4 x5 x6 x7 x8 x9 x10 x11 x12 x13 x14 hmask g0 g1 g4 g5 g6 g8 W3 ha hb
  rw [out_eq]
  canon_tiles i h
  all_goals
    obtain ⟨r, d, e0, e2⟩ : ∃ (r : Fin 4) (d : Fin 256), y 0 = r ∧ y 2 = d := ⟨_, _, rfl, rfl⟩
    rw [e0, e2]
    replace e0 : (r : ℕ) = (y 0 : ℕ) := congrArg Fin.val e0.symm
    replace e2 : (d : ℕ) = (y 2 : ℕ) := congrArg Fin.val e2.symm
    obtain rfl : i = ix3 (0 : Fin 1) (0 : Fin 1) d := by
      funext a
      fin_cases a
      · exact Fin.ext (show (i 0 : ℕ) = 0 by omega)
      · exact Fin.ext (show (i 1 : ℕ) = 0 by omega)
      · exact Fin.ext (show (i 2 : ℕ) = (d : ℕ) by omega)
  case' piece0 => obtain rfl : r = 3 := Fin.ext (show (r : ℕ) = 3 by omega)
  case' piece1 => obtain rfl : r = 2 := Fin.ext (show (r : ℕ) = 2 by omega)
  case' piece2 => obtain rfl : r = 1 := Fin.ext (show (r : ℕ) = 1 by omega)
  case' piece3 => obtain rfl : r = 0 := Fin.ext (show (r : ℕ) = 0 by omega)
  all_goals
    clear * - key z
    refine key _ _ _ _ _ _ _ _ _ _ _ _ _ _ ?_ ?_ ?_ ?_ ?_ ?_ ?_ ?_ ?_ ?_ ?_ ?_ ?_ _ _ _ _ _ _ _ _ _ _ ?_ ?_ ?_ ?_ ?_ ?_ ?_ ?_ ?_ ?_ d
    all_goals first | exact View.ld_unit_zero z _ _ | (intros; pointwise)

end Cert.Encoder

end
-- ==== Proof.Table.lean ====
module

public import proofs.«01_k».proof.KernelIdeal
public import Mathlib.Tactic.IntervalCases

@[expose] public section

set_option maxRecDepth 16384

noncomputable section

namespace Cert.Encoder

open Cert.KernelIdeal

/-- The first 128 entries of the block mask are all one. -/
theorem first_leaf (i : Nat) : lit0t0_0 i = 0x3F800000#32 := by
  have h : i % 128 < 128 := Nat.mod_lt _ (by decide)
  unfold lit0t0_0
  generalize i % 128 = x at h
  revert x
  decide +kernel

/-- The next 128 entries of the block mask are all zero. -/
theorem second_leaf (i : Nat) : lit0t0_1 i = 0#32 := by
  have h : i % 128 < 128 := Nat.mod_lt _ (by decide)
  unfold lit0t0_1
  generalize i % 128 = x at h
  revert x
  decide +kernel

set_option maxHeartbeats 40000000 in
/-- The block mask, row-major: entry `i` lies in row `i / 2560` and in the group `i / 128 % 20` of 128 columns; it is
    one when the row is one of the three of that group, and zero elsewhere. -/
theorem mask_word (i : Nat) (hi : i < 153600) :
    lit0t i = if i / 128 / 20 / 3 = i / 128 % 20 then 0x3F800000#32 else 0#32 := by
  have h1 := first_leaf i
  have h2 := second_leaf i
  have hb : i / 128 % 128 < if i / 16384 = 9 then 48 else 128 := by split <;> omega
  have ha : i / 16384 < 10 := by omega
  have hc : i / 128 = 128 * (i / 16384) + i / 128 % 128 := by omega
  rw [hc]
  unfold lit0t
  clear hc hi
  generalize i / 16384 = a at *
  interval_cases a
  all_goals
    first
    | (change lit0t1_0 i = _; unfold lit0t1_0) | (change lit0t1_1 i = _; unfold lit0t1_1)
    | (change lit0t1_2 i = _; unfold lit0t1_2) | (change lit0t1_3 i = _; unfold lit0t1_3)
    | (change lit0t1_4 i = _; unfold lit0t1_4) | (change lit0t1_5 i = _; unfold lit0t1_5)
    | (change lit0t1_6 i = _; unfold lit0t1_6) | (change lit0t1_7 i = _; unfold lit0t1_7)
    | (change lit0t1_8 i = _; unfold lit0t1_8) | (change lit0t1_9 i = _; unfold lit0t1_9)
    norm_num at hb
    generalize i / 128 % 128 = b at *
    interval_cases b
    all_goals first
      | exact h2
      | exact h1

end Cert.Encoder

end
-- ==== Proof.Entry.lean ====
module

public import proofs.«01_k».proof.Proof.Tile
public import proofs.«01_k».proof.Proof.Table
public import Idealize.ShloMosaic.Lib.Claim

@[expose] public section

set_option maxRecDepth 16384

noncomputable section

namespace Cert.Encoder

open Idealize.ShloMosaic Idealize.ShloMosaic.TcCoe Idealize.SL.Sem
open Cert.KernelIdeal Cert.KernelIdeal.Gen

/-- The rows a point's blocks stand at: four rows from four times the point, and whole arrays for the weights. -/
theorem idx : ∀ t : Fin cfg0.N, win0_0.index t = ![t.val, 0, 0] ∧ win0_1.index t = ![t.val, 0, 0] ∧
    win0_2.index t = ![t.val, 0, 0] ∧ win0_3.index t = ![0, 0] ∧ win0_4.index t = ![0, 0] ∧ win0_5.index t = ![0, 0] ∧
    win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0, 0] ∧ win0_13.index t = ![0, 0] ∧
    win0_14.index t = ![0, 0] ∧ win0_15.index t = ![t.val, 0, 0] :=
  (by decide +kernel : ∀ t : Fin grid0.N, _)

/-- The batch of a row. -/
def hi (n : Fin 48) : Fin 8 := ⟨n / 6, by omega⟩

/-- The mode of a row. -/
def lo (n : Fin 48) : Fin 6 := ⟨n % 6, by omega⟩

/-- Row `4 t + r`: the one that row `r` of point `t`'s blocks is. -/
def at4 (t : Fin cfg0.N) (r : Fin 4) : Fin 48 := ⟨t.val * 4 + r, by have := lt_of_lt_of_eq t.isLt (N_0 : cfg0.N = 12); omega⟩

/-- The polylines with batch and mode merged and each polyline's points laid side by side. -/
theorem pts_read (X : FVec Ideal S8x6x512x20x3 .f32) (n : Fin 48) (p : Fin 512) (t : Fin 20) (a : Fin 3) :
    shapeCast S48x512x60 X shapeCasts_S8x6x512x20x3_S48x512x60 (ix3 n p ⟨t * 3 + a, by omega⟩) = X (ix5 (hi n) (lo n) p t a) := by
  unfold hi lo
  pointwise

/-- The triples with batch and mode merged. -/
theorem triple_read (X : FVec Ideal S8x6x3 .f32) (n : Fin 48) (a : Fin 3) :
    shapeCast S48x1x3 X shapeCasts_S8x6x3_S48x1x3 (ix3 n 0 a) = X (ix3 (hi n) (lo n) a) := by
  unfold hi lo
  pointwise

/-- A bias laid out as one row. -/
theorem row128_read (X : FVec Ideal S128 .f32) (k : Fin 128) : shapeCast S1x128 X shapeCasts_S128_S1x128 (ix2 0 k) = X (ix1 k) := by
  pointwise

/-- A bias laid out as one row. -/
theorem row256_read (X : FVec Ideal S256 .f32) (k : Fin 256) : shapeCast S1x256 X shapeCasts_S256_S1x256 (ix2 0 k) = X (ix1 k) := by
  pointwise

/-- The upper half of the stacked layer. -/
theorem upper_read (X : FVec Ideal S512x256 .f32) (l j : Fin 256) :
    (truncf .bf16 (extractStridedSlice S256x256 ![0, 0] X slices_S512x256_S256x256_0_0 : FVec Ideal S256x256 .f32) bitsLt_bf16_f32 :
      FVec Ideal S256x256 .bf16) (ix2 l j) = X (ix2 ⟨l, by omega⟩ j) := by
  pointwise

/-- The lower half of the stacked layer. -/
theorem lower_read (X : FVec Ideal S512x256 .f32) (l j : Fin 256) :
    (truncf .bf16 (extractStridedSlice S256x256 ![256, 0] X slices_S512x256_S256x256_256_0 : FVec Ideal S256x256 .f32) bitsLt_bf16_f32 :
      FVec Ideal S256x256 .bf16) (ix2 l j) = X (ix2 ⟨256 + l, by omega⟩ j) := by
  pointwise

/-- The table of the kernel: one where the row's point is the column's, zero elsewhere. -/
theorem mask_read (q : Fin 60) (n : Fin 2560) :
    (FloatOps.ofBits (F := Ideal) .f32 (lit0 (S60x2560.rowMajor (ix2 q n))) : EReal) = if (q : ℕ) / 3 = n / 128 then 1 else 0 := by
  have hv : (S60x2560.rowMajor (ix2 q n) : ℕ) = q * 2560 + n := Shape.rowMajor_val_two _
  have hw : lit0 (S60x2560.rowMajor (ix2 q n)) = lit0t (S60x2560.rowMajor (ix2 q n) : ℕ) := rfl
  rw [hw, hv, mask_word _ (by omega)]
  have hd : (q * 2560 + n : ℕ) / 128 / 20 / 3 = q / 3 := by omega
  have hr : (q * 2560 + n : ℕ) / 128 % 20 = n / 128 := by omega
  rw [hd, hr]
  split
  · exact Ideal.ofBits_one_f32
  · exact Ideal.ofBits_zero_f32

variable (m : (ℓ : Loc nD τ sig) → Buf (Elt Ideal) ℓ) (c : Dev nD)

/-- At the call: argument 2 reaches it laid out as the kernel wants it. -/
theorem V_main_v0 : V m c main_v0 =
    shapeCast S48x512x60 (m ((c : Thread nD τ).loc main_arg2) : FVec Ideal S8x6x512x20x3 .f32) shapeCasts_S8x6x512x20x3_S48x512x60 := by
  entry_read
  rfl

/-- At the call: argument 1 reaches it laid out as the kernel wants it. -/
theorem V_main_v1 : V m c main_v1 =
    shapeCast S48x1x3 (m ((c : Thread nD τ).loc main_arg1) : FVec Ideal S8x6x3 .f32) shapeCasts_S8x6x3_S48x1x3 := by
  entry_read
  rfl

/-- At the call: argument 0 reaches it laid out as the kernel wants it. -/
theorem V_main_v2 : V m c main_v2 =
    shapeCast S48x1x3 (m ((c : Thread nD τ).loc main_arg0) : FVec Ideal S8x6x3 .f32) shapeCasts_S8x6x3_S48x1x3 := by
  entry_read
  rfl

/-- At the call: table is the program's constant. -/
theorem V_main_cst : V m c main_cst =
    (fun i => FloatOps.ofBits .f32 (lit0 (S60x2560.rowMajor i)) : FVec Ideal S60x2560 .f32) := by
  entry_read
  rfl

/-- At the call: argument 4 reaches it laid out as the kernel wants it. -/
theorem V_main_v9 : V m c main_v9 =
    shapeCast S1x128 (m ((c : Thread nD τ).loc main_arg4) : FVec Ideal S128 .f32) shapeCasts_S128_S1x128 := by
  entry_read
  rfl

/-- At the call: argument 5 reaches it laid out as the kernel wants it. -/
theorem V_main_v3 : V m c main_v3 =
    (truncf .bf16 (m ((c : Thread nD τ).loc main_arg5) : FVec Ideal S128x256 .f32) bitsLt_bf16_f32 : FVec Ideal S128x256 .bf16) := by
  entry_read
  rfl

/-- At the call: argument 6 reaches it laid out as the kernel wants it. -/
theorem V_main_v10 : V m c main_v10 =
    shapeCast S1x256 (m ((c : Thread nD τ).loc main_arg6) : FVec Ideal S256 .f32) shapeCasts_S256_S1x256 := by
  entry_read
  rfl

/-- At the call: argument 7 reaches it laid out as the kernel wants it. -/
theorem V_main_v5 : V m c main_v5 =
    (truncf .bf16 (extractStridedSlice S256x256 ![0, 0] (m ((c : Thread nD τ).loc main_arg7) : FVec Ideal S512x256 .f32) slices_S512x256_S256x256_0_0 :
      FVec Ideal S256x256 .f32) bitsLt_bf16_f32 : FVec Ideal S256x256 .bf16) := by
  entry_read
  rfl

/-- At the call: argument 7 reaches it laid out as the kernel wants it. -/
theorem V_main_v7 : V m c main_v7 =
    (truncf .bf16 (extractStridedSlice S256x256 ![256, 0] (m ((c : Thread nD τ).loc main_arg7) : FVec Ideal S512x256 .f32) slices_S512x256_S256x256_256_0 :
      FVec Ideal S256x256 .f32) bitsLt_bf16_f32 : FVec Ideal S256x256 .bf16) := by
  entry_read
  rfl

/-- At the call: argument 8 reaches it laid out as the kernel wants it. -/
theorem V_main_v11 : V m c main_v11 =
    shapeCast S1x256 (m ((c : Thread nD τ).loc main_arg8) : FVec Ideal S256 .f32) shapeCasts_S256_S1x256 := by
  entry_read
  rfl

/-- At the call: argument 9 reaches it laid out as the kernel wants it. -/
theorem V_main_v8 : V m c main_v8 =
    (truncf .bf16 (m ((c : Thread nD τ).loc main_arg9) : FVec Ideal S256x256 .f32) bitsLt_bf16_f32 : FVec Ideal S256x256 .bf16) := by
  entry_read
  rfl

/-- At the call: argument 10 reaches it laid out as the kernel wants it. -/
theorem V_main_v12 : V m c main_v12 =
    shapeCast S1x256 (m ((c : Thread nD τ).loc main_arg10) : FVec Ideal S256 .f32) shapeCasts_S256_S1x256 := by
  entry_read
  rfl

/-- At the call: argument 12 reaches it laid out as the kernel wants it. -/
theorem V_main_v13 : V m c main_v13 =
    shapeCast S1x256 (m ((c : Thread nD τ).loc main_arg12) : FVec Ideal S256 .f32) shapeCasts_S256_S1x256 := by
  entry_read
  rfl

/-- A row of a point's block of polylines is a row of the merged polylines. -/
theorem pts_block (t : Fin cfg0.N) (r : Fin 4) (p : Fin 512) (q : Fin 60) :
    (iblk m c 0 t : FVec Ideal S4x512x60 .f32) (ix3 r p q) = (V m c main_v0 : FVec Ideal S48x512x60 .f32) (ix3 (at4 t r) p q) := by
  unfold at4; blk_ext [iblk, idx t]

/-- A row of a point's block of poses is a row of the merged poses. -/
theorem pose_block (t : Fin cfg0.N) (r : Fin 4) (a : Fin 3) :
    (iblk m c 1 t : FVec Ideal S4x1x3 .f32) (ix3 r 0 a) = (V m c main_v1 : FVec Ideal S48x1x3 .f32) (ix3 (at4 t r) 0 a) := by
  unfold at4; blk_ext [iblk, idx t]

/-- A row of a point's block of goals is a row of the merged goals. -/
theorem goal_block (t : Fin cfg0.N) (r : Fin 4) (a : Fin 3) :
    (iblk m c 2 t : FVec Ideal S4x1x3 .f32) (ix3 r 0 a) = (V m c main_v2 : FVec Ideal S48x1x3 .f32) (ix3 (at4 t r) 0 a) := by
  unfold at4; blk_ext [iblk, idx t]

set_option maxHeartbeats 1600000 in
/-- The table and the weights are whole in every point's block. -/
theorem whole_blocks (t : Fin cfg0.N) :
    (iblk m c 3 t : FVec Ideal S60x2560 .f32) = (V m c main_cst : FVec Ideal S60x2560 .f32) ∧
    (iblk m c 4 t : FVec Ideal S3x128 .f32) = (V m c main_arg3 : FVec Ideal S3x128 .f32) ∧
    (iblk m c 5 t : FVec Ideal S1x128 .f32) = (V m c main_v9 : FVec Ideal S1x128 .f32) ∧
    (iblk m c 6 t : FVec Ideal S128x256 .bf16) = (V m c main_v3 : FVec Ideal S128x256 .bf16) ∧
    (iblk m c 7 t : FVec Ideal S1x256 .f32) = (V m c main_v10 : FVec Ideal S1x256 .f32) ∧
    (iblk m c 8 t : FVec Ideal S256x256 .bf16) = (V m c main_v5 : FVec Ideal S256x256 .bf16) ∧
    (iblk m c 9 t : FVec Ideal S256x256 .bf16) = (V m c main_v7 : FVec Ideal S256x256 .bf16) ∧
    (iblk m c 10 t : FVec Ideal S1x256 .f32) = (V m c main_v11 : FVec Ideal S1x256 .f32) ∧
    (iblk m c 11 t : FVec Ideal S256x256 .bf16) = (V m c main_v8 : FVec Ideal S256x256 .bf16) ∧
    (iblk m c 12 t : FVec Ideal S1x256 .f32) = (V m c main_v12 : FVec Ideal S1x256 .f32) ∧
    (iblk m c 13 t : FVec Ideal S3x256 .f32) = (V m c main_arg11 : FVec Ideal S3x256 .f32) ∧
    (iblk m c 14 t : FVec Ideal S1x256 .f32) = (V m c main_v13 : FVec Ideal S1x256 .f32) := by
  refine ⟨?_, ?_, ?_, ?_, ?_, ?_, ?_, ?_, ?_, ?_, ?_, ?_⟩ <;> blk_ext! [iblk, idx t]

end Cert.Encoder

end
-- ==== Proof.Array.lean ====
module

public import proofs.«01_k».proof.Proof.Entry

@[expose] public section

set_option maxRecDepth 16384

noncomputable section

namespace Cert.Encoder

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The arguments on which the two programs agree only when they are real: the poses, the polylines, the first two
layers and the upper half of the stacked layer hold real numbers. -/
structure RealArgs : Prop where
  pose : ∀ i, ∃ r : ℝ, (m ((c : Thread nD τ).loc main_arg1) : FVec Ideal S8x6x3 .f32) i = (r : EReal)
  pts : ∀ i, ∃ r : ℝ, (m ((c : Thread nD τ).loc main_arg2) : FVec Ideal S8x6x512x20x3 .f32) i = (r : EReal)
  W1 : ∀ i, ∃ r : ℝ, (m ((c : Thread nD τ).loc main_arg3) : FVec Ideal S3x128 .f32) i = (r : EReal)
  b1 : ∀ i, ∃ r : ℝ, (m ((c : Thread nD τ).loc main_arg4) : FVec Ideal S128 .f32) i = (r : EReal)
  W2 : ∀ i, ∃ r : ℝ, (m ((c : Thread nD τ).loc main_arg5) : FVec Ideal S128x256 .f32) i = (r : EReal)
  W3 : ∀ (l j : Fin 256), ∃ r : ℝ, (m ((c : Thread nD τ).loc main_arg7) : FVec Ideal S512x256 .f32) (ix2 ⟨l, by omega⟩ j) = (r : EReal)

/-- The encoder's answer on the arguments that the memory holds. -/
def kernelAnswer (b : Fin 8) (q : Fin 6) (d : Fin 256) : EReal :=
  answer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) b q d

/-- The encoder at a row of a block is the answer where the block's row came from. -/
theorem tile_answer (x0 : FVec Ideal S4x512x60 .f32) (x1 x2 : FVec Ideal S4x1x3 .f32) (x4 : FVec Ideal S3x128 .f32)
    (x5 : FVec Ideal S1x128 .f32) (x6 : FVec Ideal S128x256 .bf16) (x7 x10 x12 x14 : FVec Ideal S1x256 .f32)
    (x11 : FVec Ideal S256x256 .bf16) (x13 : FVec Ideal S3x256 .f32)
    (goal pose : FVec Ideal S8x6x3 .f32) (pts : FVec Ideal S8x6x512x20x3 .f32) (W1 : FVec Ideal S3x128 .f32)
    (b1 : FVec Ideal S128 .f32) (W2 : FVec Ideal S128x256 .f32) (b2 : FVec Ideal S256 .f32) (W3 : FVec Ideal S512x256 .f32)
    (b3 : FVec Ideal S256 .f32) (W4 : FVec Ideal S256x256 .f32) (b4 : FVec Ideal S256 .f32) (Wg : FVec Ideal S3x256 .f32)
    (bg : FVec Ideal S256 .f32) (b : Fin 8) (q : Fin 6) (r : Fin 4) (d : Fin 256)
    (h0 : ∀ p (s : Fin 20) (a : Fin 3), x0 (ix3 r p ⟨s * 3 + a, by omega⟩) = pts (ix5 b q p s a))
    (h1 : ∀ a, x1 (ix3 r 0 a) = pose (ix3 b q a)) (h2 : ∀ a, x2 (ix3 r 0 a) = goal (ix3 b q a)) (e4 : x4 = W1)
    (h5 : ∀ k, x5 (ix2 0 k) = b1 (ix1 k)) (e6 : x6 = W2) (h7 : ∀ k, x7 (ix2 0 k) = b2 (ix1 k))
    (h10 : ∀ k, x10 (ix2 0 k) = b3 (ix1 k)) (e11 : x11 = W4) (h12 : ∀ k, x12 (ix2 0 k) = b4 (ix1 k)) (e13 : x13 = Wg)
    (h14 : ∀ k, x14 (ix2 0 k) = bg (ix1 k)) :
    tile x0 x1 x2 x4 x5 x6 x7 x10 x11 x12 x13 x14 (fun l j => W3 (ix2 l j)) r d
      = answer goal pose pts W1 b1 W2 b2 W3 b3 W4 b4 Wg bg b q d := by
  subst e4 e6 e11 e13
  unfold tile answer
  simp only [h0, h1, h2, h5, h7, h10, h12, h14]

/-- What a point's body writes in row `r` of its block is the answer for that row's batch and mode. -/
theorem block_answer (H : RealArgs m c) (t : Fin cfg0.N) (y : S4x1x256.Idx) :
    out0_15 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) y
      = kernelAnswer m c (hi (at4 t (y 0))) (lo (at4 t (y 0))) (y 2) := by
  obtain ⟨e3, e4, e5, e6, e7, e8, e9, e10, e11, e12, e13, e14⟩ := whole_blocks m c t
  have h0 : ∀ r p (s : Fin 20) (a : Fin 3), (iblk m c 0 t : FVec Ideal S4x512x60 .f32) (ix3 r p ⟨s * 3 + a, by omega⟩)
      = (m ((c : Thread nD τ).loc main_arg2) : FVec Ideal S8x6x512x20x3 .f32) (ix5 (hi (at4 t r)) (lo (at4 t r)) p s a) :=
    fun r p s a => (pts_block m c t r p _).trans ((congrFun (V_main_v0 m c) _).trans (pts_read _ _ _ _ _))
  have h1 : ∀ r (a : Fin 3), (iblk m c 1 t : FVec Ideal S4x1x3 .f32) (ix3 r 0 a)
      = (m ((c : Thread nD τ).loc main_arg1) : FVec Ideal S8x6x3 .f32) (ix3 (hi (at4 t r)) (lo (at4 t r)) a) :=
    fun r a => (pose_block m c t r a).trans ((congrFun (V_main_v1 m c) _).trans (triple_read _ _ _))
  have h2 : ∀ r (a : Fin 3), (iblk m c 2 t : FVec Ideal S4x1x3 .f32) (ix3 r 0 a)
      = (m ((c : Thread nD τ).loc main_arg0) : FVec Ideal S8x6x3 .f32) (ix3 (hi (at4 t r)) (lo (at4 t r)) a) :=
    fun r a => (goal_block m c t r a).trans ((congrFun (V_main_v2 m c) _).trans (triple_read _ _ _))
  have h3 : ∀ (q : Fin 60) (n : Fin 2560), (iblk m c 3 t : FVec Ideal S60x2560 .f32) (ix2 q n)
      = if (q : ℕ) / 3 = n / 128 then (1 : EReal) else (0 : EReal) :=
    fun q n => (congrFun (e3.trans (V_main_cst m c)) _).trans (mask_read q n)
  replace e4 := e4.trans (V_main_arg3 m c)
  have h5 : ∀ k, (iblk m c 5 t : FVec Ideal S1x128 .f32) (ix2 0 k) = (m ((c : Thread nD τ).loc main_arg4) : FVec Ideal S128 .f32) (ix1 k) :=
    fun k => (congrFun (e5.trans (V_main_v9 m c)) _).trans (row128_read _ _)
  replace e6 := e6.trans (V_main_v3 m c)
  have h7 : ∀ k, (iblk m c 7 t : FVec Ideal S1x256 .f32) (ix2 0 k) = (m ((c : Thread nD τ).loc main_arg6) : FVec Ideal S256 .f32) (ix1 k) :=
    fun k => (congrFun (e7.trans (V_main_v10 m c)) _).trans (row256_read _ _)
  have h8 : ∀ l j, (iblk m c 8 t : FVec Ideal S256x256 .bf16) (ix2 l j) = (m ((c : Thread nD τ).loc main_arg7) : FVec Ideal S512x256 .f32) (ix2 ⟨l, by omega⟩ j) :=
    fun l j => (congrFun (e8.trans (V_main_v5 m c)) _).trans (upper_read _ _ _)
  have h9 : ∀ l j, (iblk m c 9 t : FVec Ideal S256x256 .bf16) (ix2 l j) = (m ((c : Thread nD τ).loc main_arg7) : FVec Ideal S512x256 .f32) (ix2 ⟨256 + l, by omega⟩ j) :=
    fun l j => (congrFun (e9.trans (V_main_v7 m c)) _).trans (lower_read _ _ _)
  have h10 : ∀ k, (iblk m c 10 t : FVec Ideal S1x256 .f32) (ix2 0 k) = (m ((c : Thread nD τ).loc main_arg8) : FVec Ideal S256 .f32) (ix1 k) :=
    fun k => (congrFun (e10.trans (V_main_v11 m c)) _).trans (row256_read _ _)
  replace e11 := e11.trans (V_main_v8 m c)
  have h12 : ∀ k, (iblk m c 12 t : FVec Ideal S1x256 .f32) (ix2 0 k) = (m ((c : Thread nD τ).loc main_arg10) : FVec Ideal S256 .f32) (ix1 k) :=
    fun k => (congrFun (e12.trans (V_main_v12 m c)) _).trans (row256_read _ _)
  replace e13 := e13.trans (V_main_arg11 m c)
  have h14 : ∀ k, (iblk m c 14 t : FVec Ideal S1x256 .f32) (ix2 0 k) = (m ((c : Thread nD τ).loc main_arg12) : FVec Ideal S256 .f32) (ix1 k) :=
    fun k => (congrFun (e14.trans (V_main_v13 m c)) _).trans (row256_read _ _)
  refine (out_apply (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) h3 ?_ ?_ ?_ ?_ ?_ ?_
      (fun l j => (m ((c : Thread nD τ).loc main_arg7) : FVec Ideal S512x256 .f32) (ix2 l j)) (fun l j => (h8 l j).symm)
      (fun l j => (h9 l j).symm) y).trans ?_
  · intro i
    obtain ⟨r, p, q, rfl⟩ : ∃ (r : Fin 4) (p : Fin 512) (q : Fin 60), i = ix3 r p q := ⟨i 0, i 1, i 2, eq_ix3 i⟩
    obtain ⟨s, a, rfl⟩ : ∃ (s : Fin 20) (a : Fin 3), q = ⟨s * 3 + a, by omega⟩ :=
      ⟨⟨q / 3, by omega⟩, ⟨q % 3, by omega⟩, Fin.ext (by show (q : ℕ) = q / 3 * 3 + q % 3; omega)⟩
    rw [h0]
    exact H.pts _
  · intro i
    obtain ⟨r, u, a, rfl⟩ : ∃ (r : Fin 4) (u : Fin 1) (a : Fin 3), i = ix3 r u a := ⟨i 0, i 1, i 2, eq_ix3 i⟩
    obtain rfl : u = 0 := Subsingleton.elim _ _
    rw [h1]
    exact H.pose _
  · rw [e4]
    exact H.W1
  · intro i
    obtain ⟨u, k, rfl⟩ : ∃ (u : Fin 1) (k : Fin 128), i = ix2 u k := ⟨i 0, i 1, eq_ix2 i⟩
    obtain rfl : u = 0 := Subsingleton.elim _ _
    rw [h5]
    exact H.b1 _
  · rw [e6]
    exact H.W2
  · intro i
    obtain ⟨l, j, rfl⟩ : ∃ (l j : Fin 256), i = ix2 l j := ⟨i 0, i 1, eq_ix2 i⟩
    rw [h8]
    exact H.W3 l j
  · exact tile_answer _ _ _ _ _ _ _ _ _ _ _ _ _ _ _ _ _ _ _ _ _ _ _ _ _ _ _ (y 0) (y 2) (h0 (y 0)) (h1 (y 0))
      (h2 (y 0)) e4 h5 e6 h7 h10 e11 h12 e13 h14

/-- The call's result: at every row the answer for that row's batch and mode. -/
theorem final (H : RealArgs m c) :
    (dats m 0 c).arrAt 15 cfg0.N = fun i : S48x1x256.Idx => kernelAnswer m c (hi (i 0)) (lo (i 0)) (i 2) := by
  refine (dats m 0 c).arrAt_eq_of_covers 15 _ (by decide +kernel) fun t _ y => ?_
  blk_simp
  rw [after0_15]
  have e0 : ((win0_15.blk t).view.emb y 0 : Fin 48) = at4 t (y 0) := by
    have e : win0_15.index t 0 = t.val := by rw [(idx t).2.2.2.2.2.2.2.2.2.2.2.2.2.2.2]; rfl
    refine Fin.ext (show win0_15.index t 0 * 4 + 1 * (y 0 : ℕ) = t.val * 4 + y 0 from ?_)
    rw [e, Nat.one_mul]
  have e2 : ((win0_15.blk t).view.emb y 2 : Fin 256) = y 2 := by
    have e : win0_15.index t 2 = 0 := by rw [(idx t).2.2.2.2.2.2.2.2.2.2.2.2.2.2.2]; rfl
    refine Fin.ext (show win0_15.index t 2 * 256 + 1 * (y 2 : ℕ) = y 2 from ?_)
    rw [e]; omega
  exact (block_answer m c H t y).trans (by rw [e0, e2])

/-- An array of rows with batch and mode apart. -/
theorem unmerged (X : FVec Ideal S48x1x256 .f32) (b : Fin 8) (q : Fin 6) (d : Fin 256) :
    shapeCast S8x6x256 X shapeCasts_S48x1x256_S8x6x256 (ix3 b q d) = X (ix3 ⟨b * 6 + q, by omega⟩ 0 d) := by
  pointwise

/-- The program's result, batch and mode apart again. -/
theorem result_read (H : RealArgs m c) (b : Fin 8) (q : Fin 6) (d : Fin 256) :
    shapeCast S8x6x256 ((dats m 0 c).arrAt 15 cfg0.N : FVec Ideal S48x1x256 .f32) shapeCasts_S48x1x256_S8x6x256 (ix3 b q d)
      = kernelAnswer m c b q d := by
  have eb : hi ⟨b * 6 + q, by omega⟩ = b := Fin.ext (by show ((b : ℕ) * 6 + q) / 6 = b; omega)
  have eq : lo ⟨b * 6 + q, by omega⟩ = q := Fin.ext (by show ((b : ℕ) * 6 + q) % 6 = q; omega)
  refine (unmerged _ b q d).trans ((congrFun (final m c H) _).trans ?_)
  show kernelAnswer m c (hi ⟨b * 6 + q, _⟩) (lo ⟨b * 6 + q, _⟩) d = _
  rw [eb, eq]

end Cert.Encoder

end
-- ==== Proof.Reference.lean ====
module

public import proofs.«01_k».proof.Proof.Row
public import proofs.«01_k».proof.Proof.Gen.ReferenceIdeal.Read

@[expose] public section

set_option maxRecDepth 16384

noncomputable section

namespace Cert.Encoder

open Idealize.ShloMosaic Idealize.ShloMosaic.TcCoe Idealize.SL.Sem
open Cert.ReferenceIdeal Cert.ReferenceIdeal.Gen Cert.ReferenceIdeal.Read

variable (x0 x1 : FVec Ideal S8x6x3 .f32) (x2 : FVec Ideal S8x6x512x20x3 .f32) (x3 : FVec Ideal S3x128 .f32)
  (x4 : FVec Ideal S128 .f32) (x5 : FVec Ideal S128x256 .f32) (x6 : FVec Ideal S256 .f32) (x7 : FVec Ideal S512x256 .f32)
  (x8 : FVec Ideal S256 .f32) (x9 : FVec Ideal S256x256 .f32) (x10 : FVec Ideal S256 .f32) (x11 : FVec Ideal S3x256 .f32)
  (x12 : FVec Ideal S256 .f32)

set_option maxHeartbeats 1600000 in
/-- The goal's pose-relative coordinates in the reference. -/
theorem goal_near (b : Fin 8) (q : Fin 6) (a : Fin 3) :
    (val_main_v29 (F := Ideal) x0 x1 : FVec Ideal S8x6x3 .f32) (ix3 b q a)
      = near (Ideal.cos (x1 (ix3 b q 2))) (Ideal.sin (x1 (ix3 b q 2))) (x1 (ix3 b q 0)) (x1 (ix3 b q 1)) (x1 (ix3 b q 2)) (fun a => x0 (ix3 b q a)) a := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29]
  fin_cases a <;> rfl

set_option maxHeartbeats 1600000 in
/-- A point's pose-relative coordinates in the reference. -/
theorem point_near (b : Fin 8) (q : Fin 6) (p : Fin 512) (t : Fin 20) (a : Fin 3) :
    (val_main_v71 (F := Ideal) x1 x2 : FVec Ideal S8x6x512x20x3 .f32) (ix5 b q p t a)
      = near (Ideal.cos (x1 (ix3 b q 2))) (Ideal.sin (x1 (ix3 b q 2))) (x1 (ix3 b q 0)) (x1 (ix3 b q 1)) (x1 (ix3 b q 2)) (fun a => x2 (ix5 b q p t a)) a := by
  pointwise [val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71]
  fin_cases a <;> rfl

/-- The first layer in the reference. -/
theorem ref_layer1 (n : Fin 48) (p : Fin 512) (t : Fin 20) (k : Fin 128) :
    (val_main_v79 (F := Ideal) x1 x2 x3 x4 : FVec Ideal S48x512x20x128 .f32) (ix4 n p t k)
      = layer1 (fun a k => x3 (ix2 a k)) (fun k => x4 (ix1 k))
       (fun a => (val_main_v71 (F := Ideal) x1 x2 : FVec Ideal S8x6x512x20x3 .f32) (ix5 ⟨n / 6, by omega⟩ ⟨n % 6, by omega⟩ p t a)) k := by
  unfold layer1
  pointwise [val_main_v72, val_main_v73, val_main_v74, val_main_v75, val_main_v76, val_main_v77, val_main_v78, val_main_v79, val_main_cst]

/-- The second layer in the reference. -/
theorem ref_layer2 (n : Fin 48) (p : Fin 512) (t : Fin 20) (l : Fin 256) :
    (val_main_v85 (F := Ideal) x1 x2 x3 x4 x5 x6 : FVec Ideal S48x512x20x256 .f32) (ix4 n p t l)
      = layer2 (fun t k => (val_main_v79 (F := Ideal) x1 x2 x3 x4 : FVec Ideal S48x512x20x128 .f32) (ix4 n p t k))
        (fun k l => x5 (ix2 k l)) (fun l => x6 (ix1 l)) t l := by
  unfold layer2
  pointwise [val_main_v80, val_main_v81, val_main_v82, val_main_v83, val_main_v84, val_main_v85, val_main_c, val_main_v73, val_main_call0_v0, val_main_call0_v1, val_main_call0_v2, val_main_cst_0]

/-- The second layer's maximum over a polyline in the reference. -/
theorem ref_pooled (n : Fin 48) (p : Fin 512) (l : Fin 256) :
    (val_main_v86 (F := Ideal) x1 x2 x3 x4 x5 x6 : FVec Ideal S48x512x256 .f32) (ix3 n p l)
      = Finset.univ.fold max ⊥ fun t : Fin 20 => (val_main_v85 (F := Ideal) x1 x2 x3 x4 x5 x6 : FVec Ideal S48x512x20x256 .f32) (ix4 n p t l) := by
  pointwise [val_main_v86, val_main_cst_1]
  rw [bits_bot_single]

/-- A point's second layer beside its polyline's maximum in the reference. -/
theorem ref_both (n : Fin 48) (p : Fin 512) (t : Fin 20) (i : Fin 512) :
    (val_main_v89 (F := Ideal) x1 x2 x3 x4 x5 x6 : FVec Ideal S48x512x20x512 .f32) (ix4 n p t i)
      = if hi : (i : ℕ) < 256 then (val_main_v85 (F := Ideal) x1 x2 x3 x4 x5 x6 : FVec Ideal S48x512x20x256 .f32) (ix4 n p t ⟨i, hi⟩)
        else (val_main_v86 (F := Ideal) x1 x2 x3 x4 x5 x6 : FVec Ideal S48x512x256 .f32) (ix3 n p ⟨i - 256, by omega⟩) := by
  pointwise [val_main_v89, val_main_v88, val_main_v87]

/-- The fourth layer in the reference. -/
theorem ref_layer4 (n : Fin 48) (p : Fin 512) (t : Fin 20) (d : Fin 256) :
    (val_main_v101 (F := Ideal) x1 x2 x3 x4 x5 x6 x7 x8 x9 x10 : FVec Ideal S48x512x20x256 .f32) (ix4 n p t d)
      = (∑ j : Fin 256, max ((∑ i : Fin 512, (val_main_v89 (F := Ideal) x1 x2 x3 x4 x5 x6 : FVec Ideal S48x512x20x512 .f32) (ix4 n p t i)
          * x7 (ix2 i j)) + x8 (ix1 j)) 0 * x9 (ix2 j d)) + x10 (ix1 d) := by
  pointwise [val_main_v90, val_main_v91, val_main_v92, val_main_v93, val_main_v94, val_main_v95, val_main_v96, val_main_v97, val_main_v98, val_main_v99, val_main_v100, val_main_v101, val_main_c, val_main_v73, val_main_call1_v0, val_main_call1_v1, val_main_call1_v2, val_main_cst_2, val_main_cst_3]

/-- The fourth layer's maximum over a polyline in the reference. -/
theorem ref_feature (n : Fin 48) (p : Fin 512) (d : Fin 256) :
    (val_main_v102 (F := Ideal) x1 x2 x3 x4 x5 x6 x7 x8 x9 x10 : FVec Ideal S48x512x256 .f32) (ix3 n p d)
      = Finset.univ.fold max ⊥ fun t : Fin 20 =>
        (val_main_v101 (F := Ideal) x1 x2 x3 x4 x5 x6 x7 x8 x9 x10 : FVec Ideal S48x512x20x256 .f32) (ix4 n p t d) := by
  pointwise [val_main_v102, val_main_cst_4]
  rw [bits_bot_single]

/-- The reference's result from its goal side and its polylines' features. -/
theorem ref_sum (b : Fin 8) (q : Fin 6) (d : Fin 256) :
    (val_main_v105 (F := Ideal) x0 x1 x2 x3 x4 x5 x6 x7 x8 x9 x10 x11 x12 : FVec Ideal S8x6x256 .f32) (ix3 b q d)
      = (∑ a : Fin 3, (val_main_v29 (F := Ideal) x0 x1 : FVec Ideal S8x6x3 .f32) (ix3 b q a) * x11 (ix2 a d)) + x12 (ix1 d)
        + ∑ p : Fin 512, (val_main_v102 (F := Ideal) x1 x2 x3 x4 x5 x6 x7 x8 x9 x10 : FVec Ideal S48x512x256 .f32)
            (ix3 ⟨b * 6 + q, by omega⟩ p d) := by
  pointwise [val_main_v30, val_main_v31, val_main_v32, val_main_v33, val_main_v103, val_main_v104, val_main_v105, val_main_cst_5]

/-- The reference computes the encoder's answer. -/
theorem ref_answer (b : Fin 8) (q : Fin 6) (d : Fin 256) :
    (val_main_v105 (F := Ideal) x0 x1 x2 x3 x4 x5 x6 x7 x8 x9 x10 x11 x12 : FVec Ideal S8x6x256 .f32) (ix3 b q d)
      = answer x0 x1 x2 x3 x4 x5 x6 x7 x8 x9 x10 x11 x12 b q d := by
  have eb : (⟨((⟨b * 6 + q, by omega⟩ : Fin 48) : ℕ) / 6, by omega⟩ : Fin 8) = b :=
    Fin.ext (by show ((b : ℕ) * 6 + q) / 6 = b; omega)
  have eq : (⟨((⟨b * 6 + q, by omega⟩ : Fin 48) : ℕ) % 6, by omega⟩ : Fin 6) = q :=
    Fin.ext (by show ((b : ℕ) * 6 + q) % 6 = q; omega)
  rw [ref_sum]
  unfold answer encode poly both
  simp only [goal_near, ref_feature, ref_layer4, ref_both, ref_pooled, ref_layer2, ref_layer1, point_near, eb, eq]

end Cert.Encoder

end
-- ==== Proof.Finite.lean ====
module

public import proofs.«01_k».proof.Defs
public import proofs.«01_k».proof.Proof.Array

@[expose] public section

set_option maxRecDepth 16384

noncomputable section

namespace Cert.Encoder

open Idealize.ShloMosaic Idealize.ShloMosaic.TcCoe Idealize.SL.Sem
open Cert.KernelIdeal Cert.KernelIdeal.Gen

/-- An extended real whose absolute value compares below the word of infinity is a real number. -/
theorem real_of_olt (x : Ideal .f32) (h : FloatOps.cmpf .olt (FloatOps.hostAbsf x) (FloatOps.ofBits (F := Ideal) .f32 0x7F800000#32) = 1#1) :
    ∃ r : ℝ, x = (r : EReal) := by
  have e : (max (x : EReal) (-x)) < ⊤ := by
    have : (max (x : EReal) (-x)) < FloatOps.ofBits (F := Ideal) .f32 0x7F800000#32 := (Ideal.cmp_olt_eq_one _ _).mp h
    rwa [show (FloatOps.ofBits (F := Ideal) .f32 0x7F800000#32 : EReal) = ⊤ from bits_top_single] at this
  obtain ⟨e1, e2⟩ := max_lt_iff.mp e
  have n1 : (x : EReal) ≠ ⊤ := e1.ne
  have n2 : (x : EReal) ≠ ⊥ := fun hb => by
    rw [hb] at e2
    exact absurd e2 (by simp)
  exact ⟨EReal.toReal x, (EReal.coe_toReal n1 n2).symm⟩

/-- The precondition makes every argument that it names real, at every index. -/
theorem realArgs [Cert.Pre_layers_finite.Facts] (m : (ℓ : Loc nD τ sig) → Buf (Elt Ideal) ℓ) (h : Cert.Pre_KernelIdeal_layers_finite m)
    (c : Dev nD) : RealArgs m c := by
  obtain ⟨h1, h2, h3, h4, h5, h7⟩ := h c
  refine ⟨fun i => real_of_olt _ (congrFun h1 i), fun i => real_of_olt _ (congrFun h2 i), fun i => real_of_olt _ (congrFun h3 i),
    fun i => real_of_olt _ (congrFun h4 i), fun i => real_of_olt _ (congrFun h5 i), fun l j => ?_⟩
  have e := real_of_olt _ (congrFun h7 (ix2 l j))
  refine e.imp fun r hr => Eq.trans (congrArg _ ?_) hr
  funext a
  fin_cases a
  · exact Fin.ext (Nat.zero_add (l : ℕ)).symm
  · exact Fin.ext (Nat.zero_add (j : ℕ)).symm

end Cert.Encoder

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_layers_finite
public import proofs.«01_k».proof.Proof.Array
public import proofs.«01_k».proof.Proof.Reference
public import proofs.«01_k».proof.Proof.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference runs, leaves its arguments unchanged and every counter at zero, from any memory. -/
theorem reference_frame : Cert.quiescent_ReferenceIdeal (hReferenceIdeal := Cert.ReferenceIdeal.Gen.facts) := by
  intro m g _
  refine Idealize.ShloMosaic.θ_run_mono (Cert.ReferenceIdeal.Value.run m g) fun r h => ⟨fun c => (h c).2, ?_⟩
  exact sem_eq_zero_of_no_sems rfl _

/-- After the kernel's last host operation the result holds the rows that the region wrote, in the result's shape. -/
theorem result_after (m : (ℓ : Loc Cert.KernelIdeal.nD Cert.KernelIdeal.τ Cert.KernelIdeal.sig) → Buf (Elt Idealize.ShloMosaic.Ideal) ℓ)
    (c : Dev Cert.KernelIdeal.nD) :
    (Pipeline.afterTail₀ Cert.KernelIdeal.cfgs (Cert.KernelIdeal.Gen.dats m) 0 (Cert.KernelIdeal.Gen.V0 m) [Cert.KernelIdeal.Gen.hostOps1] c
        Cert.KernelIdeal.main_v15 : FVec Idealize.ShloMosaic.Ideal Cert.KernelIdeal.S8x6x256 .f32)
      = shapeCast Cert.KernelIdeal.S8x6x256
          ((Cert.KernelIdeal.Gen.dats m 0 c).arrAt 15 Cert.KernelIdeal.cfg0.N : FVec Idealize.ShloMosaic.Ideal Cert.KernelIdeal.S48x1x256 .f32)
          Cert.KernelIdeal.Gen.shapeCasts_S48x1x256_S8x6x256 := by
  have e := Pipeline.withArrays_arr Cert.KernelIdeal.spec0 (by decide) c (Cert.KernelIdeal.Gen.V0 m c)
    (fun w => (Cert.KernelIdeal.Gen.dats m 0 c).arrAt w Cert.KernelIdeal.cfg0.N) 15
  unfold Pipeline.afterTail₀
  simp only [Cert.KernelIdeal.Gen.hostOps1, List.flatten_cons, List.flatten_nil, List.append_nil]
  after_results
  exact congrArg (fun x : FVec Idealize.ShloMosaic.Ideal Cert.KernelIdeal.S48x1x256 .f32 =>
    shapeCast Cert.KernelIdeal.S8x6x256 x Cert.KernelIdeal.Gen.shapeCasts_S48x1x256_S8x6x256) e

/-- The kernel runs and leaves the region's rows in the result, in the result's shape. -/
theorem kernel_run (m : (ℓ : Loc Cert.KernelIdeal.nD Cert.KernelIdeal.τ Cert.KernelIdeal.sig) → Buf (Elt Idealize.ShloMosaic.Ideal) ℓ)
    (g : Dev Cert.KernelIdeal.nD → PrngReg) :
    θ_run (Cert.KernelIdeal.defs (F := Idealize.ShloMosaic.Ideal))
      (onTc (τ := Cert.KernelIdeal.τ) (Cert.KernelIdeal.main (F := Idealize.ShloMosaic.Ideal))) ⟨m, fun _ => 0, g⟩ fun r =>
        ∀ c : Dev Cert.KernelIdeal.nD,
          r.2.mem ((c.tc : Thread Cert.KernelIdeal.nD Cert.KernelIdeal.τ).loc Cert.KernelIdeal.main_v15)
              = (shapeCast Cert.KernelIdeal.S8x6x256
                  ((Cert.KernelIdeal.Gen.dats m 0 c).arrAt 15 Cert.KernelIdeal.cfg0.N : FVec Idealize.ShloMosaic.Ideal Cert.KernelIdeal.S48x1x256 .f32)
                  Cert.KernelIdeal.Gen.shapeCasts_S48x1x256_S8x6x256 : FVec Idealize.ShloMosaic.Ideal Cert.KernelIdeal.S8x6x256 .f32) :=
  Idealize.ShloMosaic.θ_run_mono (Cert.KernelIdeal.Gen.run_main m g) fun _ h c =>
    ((h c).2 Cert.KernelIdeal.main_v15 (Pipeline.mem_restRefs_of Cert.KernelIdeal.main_v15 (by decide) (by decide))).trans (result_after m c)

/-- Where the first layers' arguments are real, the kernel and the reference both run and end with the same result array:
each holds the encoder's answer on the arguments. -/
theorem algebraic : Cert.algebraic_KernelIdeal_ReferenceIdeal_pre_layers_finite (hKernelIdeal := Cert.KernelIdeal.Gen.facts)
    (hReferenceIdeal := Cert.ReferenceIdeal.Gen.facts) (hPre_layers_finite := Cert.Pre_layers_finite.Gen.facts) := by
  intro m g m' g' hpre hagree
  refine ⟨fun c => (shapeCast Cert.KernelIdeal.S8x6x256
    ((Cert.KernelIdeal.Gen.dats m 0 c).arrAt 15 Cert.KernelIdeal.cfg0.N : FVec Idealize.ShloMosaic.Ideal Cert.KernelIdeal.S48x1x256 .f32)
    Cert.KernelIdeal.Gen.shapeCasts_S48x1x256_S8x6x256 : FVec Idealize.ShloMosaic.Ideal Cert.KernelIdeal.S8x6x256 .f32), ?_, ?_⟩
  · exact Idealize.ShloMosaic.θ_run_mono (Idealize.ShloMosaic.θ_run_and (kernel_run m g) (Cert.KernelIdeal.Gen.frame m g))
      fun _ h c => ⟨h.1 c, h.2.1 c⟩
  · run_from Cert.ReferenceIdeal.Value.run m' g'
    obtain ⟨a0, a1, a2, a3, a4, a5, a6, a7, a8, a9, a10, a11, a12⟩ := hagree c
    rw [Cert.ReferenceIdeal.Read.val_main_v105_eq, a0, a1, a2, a3, a4, a5, a6, a7, a8, a9, a10, a11, a12]
    funext i
    rw [eq_ix3 i]
    exact (Cert.Encoder.ref_answer _ _ _ _ _ _ _ _ _ _ _ _ _ _ _ _).trans
      (Cert.Encoder.result_read m c (Cert.Encoder.realArgs m hpre c) _ _ _).symm

/-- The five statements of the test file, together. -/
theorem claim : Cert.Claim :=
  ⟨Cert.Kernel.Gen.facts, Cert.KernelIdeal.Gen.facts, Cert.ReferenceIdeal.Gen.facts, Cert.Pre_layers_finite.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    algebraic⟩

end Cert.Proof

end
